-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8))
      ∧ r.2.sem = fun _ => 0)

def preserves_Kernel_KernelIdeal : Prop :=
  IdealRules.named_const.Statement Cert.KernelIdeal.κ "mask" .f32 0xF149F2CA#32 ⊥

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v17) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v17)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v17) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v60) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)) →
    ∃ (v0 : (c : Dev Cert.OutprojIdeal.nD) → Buf (Elt Ideal) ((c.tc : Thread Cert.OutprojIdeal.nD Cert.OutprojIdeal.τ).loc Cert.OutprojIdeal.main_v12_0)) (v1 : (c : Dev Cert.OutprojIdeal.nD) → Buf (Elt Ideal) ((c.tc : Thread Cert.OutprojIdeal.nD Cert.OutprojIdeal.τ).loc Cert.OutprojIdeal.main_v12_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v12_0) = v0 c
          ∧ r.2.mem ((c.tc : Thread Cert.OutprojIdeal.nD Cert.OutprojIdeal.τ).loc Cert.OutprojIdeal.main_v12_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v28) = v0 c
          ∧ r.2.mem ((c.tc : Thread Cert.OutprojRefIdeal.nD Cert.OutprojRefIdeal.τ).loc Cert.OutprojRefIdeal.main_v42) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hExperts : Cert.Experts.Facts) (hExpertsIdeal : Cert.ExpertsIdeal.Facts) (hExpertsRefIdeal : Cert.ExpertsRefIdeal.Facts) (hOutproj : Cert.Outproj.Facts) (hOutprojIdeal : Cert.OutprojIdeal.Facts) (hOutprojRefIdeal : Cert.OutprojRefIdeal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojRefIdeal (hInprojRefIdeal := hInprojRefIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ quiescent_Outproj (hOutproj := hOutproj)
    ∧ quiescent_OutprojIdeal (hOutprojIdeal := hOutprojIdeal)
    ∧ quiescent_OutprojRefIdeal (hOutprojRefIdeal := hOutprojRefIdeal)
    ∧ preserves_Kernel_KernelIdeal
    ∧ preserves_Inproj_InprojIdeal
    ∧ algebraic_InprojIdeal_InprojRefIdeal (hInprojIdeal := hInprojIdeal) (hInprojRefIdeal := hInprojRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Outproj_OutprojIdeal
    ∧ algebraic_OutprojIdeal_OutprojRefIdeal (hOutprojIdeal := hOutprojIdeal) (hOutprojRefIdeal := hOutprojRefIdeal)
-- ==== Pre_experts_in_range.lean ====
abbrev S288 : Shape := ⟨1, ![288]⟩
abbrev S1 : Shape := ⟨1, ![1]⟩
abbrev S2359296x128 : Shape := ⟨2, ![2359296, 128]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S2359296x128 .f32) (main_arg3 : FVec F S32x2048x4096 .f32) (main_arg4 : FVec F S32x4096 .f32) (main_arg5 : FVec F S32x2048x2048 .f32) (main_arg6 : FVec F S32x2048 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Kernel.lean ====
abbrev S32768x3584 : Shape := ⟨2, ![32768, 3584]⟩
abbrev S128 : Shape := ⟨1, ![128]⟩
abbrev S8 : Shape := ⟨1, ![8]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x256 : Shape := ⟨2, ![4096, 256]⟩
abbrev S1x128 : Shape := ⟨2, ![1, 128]⟩
abbrev S32768x1024 : Shape := ⟨2, ![32768, 1024]⟩
abbrev S128x1024 : Shape := ⟨2, ![128, 1024]⟩
abbrev S128x256 : Shape := ⟨2, ![128, 256]⟩
abbrev S512x384 : Shape := ⟨2, ![512, 384]⟩
abbrev S512x1 : Shape := ⟨2, ![512, 1]⟩
abbrev S128x128 : Shape := ⟨2, ![128, 128]⟩
abbrev S128x1 : Shape := ⟨2, ![128, 1]⟩
abbrev S384x128 : Shape := ⟨2, ![384, 128]⟩
abbrev S1 : Shape := ⟨1, ![1]⟩
abbrev S512x128 : Shape := ⟨2, ![512, 128]⟩
abbrev S512 : Shape := ⟨1, ![512]⟩

abbrev nBuf : Space → Nat
  | .hbm => 26
  | .vmem => 24
  | .smem => 1
  | _ => 0

abbrev bufTy : (tb : Table) → Fin (tcTables nBuf tb) → BufTy
  | .hbm, ⟨0, _⟩ => ⟨S32768x3584, .f32⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S4096, .i32⟩
  | .hbm, ⟨13, _⟩ => ⟨S4096, .f32⟩
  | .hbm, ⟨14, _⟩ => ⟨S4096x1, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x256, .f32⟩
  | .hbm, ⟨23, _⟩ => ⟨S1x128, .f32⟩
  | .hbm, ⟨24, _⟩ => ⟨S1x128, .f32⟩
  | .hbm, ⟨25, _⟩ => ⟨S32768x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S1x128, .f32⟩
  | .local _ .vmem, ⟨21, _⟩ => ⟨S1x128, .f32⟩
  | .local _ .vmem, ⟨22, _⟩ => ⟨S128x1024, .f32⟩
  | .local _ .vmem, ⟨23, _⟩ => ⟨S128x1024, .f32⟩
  | .local _ .smem, ⟨0, _⟩ => ⟨S8, .f32⟩
  | _, _ => ⟨S32768x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi arg1 c0_i32
  let c0_i32_0 : BitVec 32 := 0#32
  let c31_i32 : BitVec 32 := 31#32
  let v2 : BitVec 32 := Scalar.maxsi c0_i32_0 v1
  let v3 : BitVec 32 := Scalar.minsi c31_i32 v2
  let v4 : BitVec 32 := Scalar.addi v0 v3
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c_m1_i32 : BitVec 32 := 4294967295#32
  let v1 : BitVec 32 := Scalar.addi arg1 c_m1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c4_i32 : BitVec 32 := 4#32
  let c0_i32_0 : BitVec 32 := 0#32
  ![v4.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi arg1 c0_i32
  let c0_i32_0 : BitVec 32 := 0#32
  let c31_i32 : BitVec 32 := 31#32
  let v2 : BitVec 32 := Scalar.maxsi c0_i32_0 v1
  let v3 : BitVec 32 := Scalar.minsi c31_i32 v2
  let v4 : BitVec 32 := Scalar.addi v0 v3
  let c4_i32 : BitVec 32 := 4#32
  let c0_i32_1 : BitVec 32 := 0#32
  ![v4.toNat, c4_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c4_i32 : BitVec 32 := 4#32
  let c0_i32_0 : BitVec 32 := 0#32
  ![v4.toNat, c4_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c_m1_i32 : BitVec 32 := 4294967295#32
  let v1 : BitVec 32 := Scalar.addi arg1 c_m1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c5_i32 : BitVec 32 := 5#32
  let c0_i32_0 : BitVec 32 := 0#32
  ![v4.toNat, c5_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi arg1 c0_i32
  let c0_i32_0 : BitVec 32 := 0#32
  let c31_i32 : BitVec 32 := 31#32
  let v2 : BitVec 32 := Scalar.maxsi c0_i32_0 v1
  let v3 : BitVec 32 := Scalar.minsi c31_i32 v2
  let v4 : BitVec 32 := Scalar.addi v0 v3
  let c5_i32 : BitVec 32 := 5#32
  let c0_i32_1 : BitVec 32 := 0#32
  ![v4.toNat, c5_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c5_i32 : BitVec 32 := 5#32
  let c0_i32_0 : BitVec 32 := 0#32
  ![v4.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_9 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x3584 : Shape := ⟨2, ![32768, 3584]⟩
abbrev S128 : Shape := ⟨1, ![128]⟩
abbrev S8 : Shape := ⟨1, ![8]⟩
abbrev S32768x1024 : Shape := ⟨2, ![32768, 1024]⟩
abbrev S32768x256 : Shape := ⟨2, ![32768, 256]⟩
abbrev S4096 : Shape := ⟨1, ![4096]⟩
abbrev S8x4096x8x128 : Shape := ⟨4, ![8, 4096, 8, 128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S8x4096x8x64 : Shape := ⟨4, ![8, 4096, 8, 64]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S8x4096x2x64 : Shape := ⟨4, ![8, 4096, 2, 64]⟩
abbrev S8x32x128x2x4x128 : Shape := ⟨6, ![8, 32, 128, 2, 4, 128]⟩
abbrev S8x4352x2x128 : Shape := ⟨4, ![8, 4352, 2, 128]⟩
abbrev S8x34x128x2x128 : Shape := ⟨5, ![8, 34, 128, 2, 128]⟩
abbrev S8x32x128x2x128 : Shape := ⟨5, ![8, 32, 128, 2, 128]⟩
abbrev S8x32x384x2x128 : Shape := ⟨5, ![8, 32, 384, 2, 128]⟩
abbrev S8x32x2x384x128x4 : Shape := ⟨6, ![8, 32, 2, 384, 128, 4]⟩
abbrev S8x32x2x4x128x384 : Shape := ⟨6, ![8, 32, 2, 4, 128, 384]⟩
abbrev S32 : Shape := ⟨1, ![32]⟩
abbrev S32x1x1 : Shape := ⟨3, ![32, 1, 1]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S8x32x2x4x128x1 : Shape := ⟨6, ![8, 32, 2, 4, 128, 1]⟩
abbrev S8x32x2x4x128x385 : Shape := ⟨6, ![8, 32, 2, 4, 128, 385]⟩
abbrev S8x32x2x4x128 : Shape := ⟨5, ![8, 32, 2, 4, 128]⟩
abbrev S8x32x2x128x4x128 : Shape := ⟨6, ![8, 32, 2, 128, 4, 128]⟩

abbrev nBuf : Space → Nat
  | .hbm => 192
  | .vmem => 0
  | .smem => 0
  | _ => 0

abbrev hbmTy0_0 (i : Nat) : BufTy := match i % 128 with
  | 0 => ⟨S32768x3584, .f32⟩
  | 1 => ⟨S128, .f32⟩
  | 2 => ⟨S128, .f32⟩
  | 3 => ⟨S8, .f32⟩
  | 4 => ⟨S32768x1024, .f32⟩
  | 5 => ⟨S32768x256, .f32⟩
  | 6 => ⟨S32768x256, .f32⟩
  | 7 => ⟨S4096, .i32⟩
  | 8 => ⟨S8x4096x8x128, .f32⟩
  | 9 => ⟨S8x4096x8x128, .f32⟩
  | 10 => ⟨S_, .f32⟩
  | 11 => ⟨S8x4096x8, .f32⟩
  | 12 => ⟨S8x4096x8x1, .f32⟩
  | 13 => ⟨S_, .f32⟩
  | 14 => ⟨S8x4096x8x1, .f32⟩
  | 15 => ⟨S8x4096x8x1, .f32⟩
  | 16 => ⟨S_, .f32⟩
  | 17 => ⟨S8x4096x8x1, .f32⟩
  | 18 => ⟨S8x4096x8x1, .f32⟩
  | 19 => ⟨S8x4096x8x1, .f32⟩
  | 20 => ⟨S8x4096x8x128, .f32⟩
  | 21 => ⟨S8x4096x8x128, .f32⟩
  | 22 => ⟨S1x1x1x128, .f32⟩
  | 23 => ⟨S8x4096x8x128, .f32⟩
  | 24 => ⟨S8x4096x8x128, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S4096, .f32⟩
  | 34 => ⟨S4096x1, .f32⟩
  | 35 => ⟨S1x64, .f32⟩
  | 36 => ⟨S4096x64, .f32⟩
  | 37 => ⟨S4096x64, .f32⟩
  | 38 => ⟨S4096x64, .f32⟩
  | 39 => ⟨S4096x64, .f32⟩
  | 40 => ⟨S1x4096x1x64, .f32⟩
  | 41 => ⟨S4096x64, .f32⟩
  | 42 => ⟨S1x4096x1x64, .f32⟩
  | 43 => ⟨S8x4096x8x64, .f32⟩
  | 44 => ⟨S8x4096x8x64, .f32⟩
  | 45 => ⟨S8x4096x8x64, .f32⟩
  | 46 => ⟨S8x4096x8x64, .f32⟩
  | 47 => ⟨S8x4096x8x64, .f32⟩
  | 48 => ⟨S8x4096x8x64, .f32⟩
  | 49 => ⟨S8x4096x8x64, .f32⟩
  | 50 => ⟨S8x4096x8x64, .f32⟩
  | 51 => ⟨S8x4096x8x64, .f32⟩
  | 52 => ⟨S8x4096x8x64, .f32⟩
  | 53 => ⟨S8x4096x8x64, .f32⟩
  | 54 => ⟨S8x4096x8x64, .f32⟩
  | 55 => ⟨S8x4096x8x128, .f32⟩
  | 56 => ⟨S8x4096x2x128, .f32⟩
  | 57 => ⟨S8x4096x2x128, .f32⟩
  | 58 => ⟨S_, .f32⟩
  | 59 => ⟨S8x4096x2, .f32⟩
  | 60 => ⟨S8x4096x2x1, .f32⟩
  | 61 => ⟨S_, .f32⟩
  | 62 => ⟨S8x4096x2x1, .f32⟩
  | 63 => ⟨S8x4096x2x1, .f32⟩
  | 64 => ⟨S_, .f32⟩
  | 65 => ⟨S8x4096x2x1, .f32⟩
  | 66 => ⟨S8x4096x2x1, .f32⟩
  | 67 => ⟨S8x4096x2x1, .f32⟩
  | 68 => ⟨S8x4096x2x128, .f32⟩
  | 69 => ⟨S8x4096x2x128, .f32⟩
  | 70 => ⟨S1x1x1x128, .f32⟩
  | 71 => ⟨S8x4096x2x128, .f32⟩
  | 72 => ⟨S8x4096x2x128, .f32⟩
  | 73 => ⟨S64, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S4096, .f32⟩
  | 82 => ⟨S4096x1, .f32⟩
  | 83 => ⟨S1x64, .f32⟩
  | 84 => ⟨S4096x64, .f32⟩
  | 85 => ⟨S4096x64, .f32⟩
  | 86 => ⟨S4096x64, .f32⟩
  | 87 => ⟨S4096x64, .f32⟩
  | 88 => ⟨S1x4096x1x64, .f32⟩
  | 89 => ⟨S4096x64, .f32⟩
  | 90 => ⟨S1x4096x1x64, .f32⟩
  | 91 => ⟨S8x4096x2x64, .f32⟩
  | 92 => ⟨S8x4096x2x64, .f32⟩
  | 93 => ⟨S8x4096x2x64, .f32⟩
  | 94 => ⟨S8x4096x2x64, .f32⟩
  | 95 => ⟨S8x4096x2x64, .f32⟩
  | 96 => ⟨S8x4096x2x64, .f32⟩
  | 97 => ⟨S8x4096x2x64, .f32⟩
  | 98 => ⟨S8x4096x2x64, .f32⟩
  | 99 => ⟨S8x4096x2x64, .f32⟩
  | 100 => ⟨S8x4096x2x64, .f32⟩
  | 101 => ⟨S8x4096x2x64, .f32⟩
  | 102 => ⟨S8x4096x2x64, .f32⟩
  | 103 => ⟨S8x4096x2x128, .f32⟩
  | 104 => ⟨S8x4096x2x128, .f32⟩
  | 105 => ⟨S8x32x128x2x4x128, .f32⟩
  | 106 => ⟨S_, .i32⟩
  | 107 => ⟨S_, .f32⟩
  | 108 => ⟨S8x4352x2x128, .f32⟩
  | 109 => ⟨S8x34x128x2x128, .f32⟩
  | 110 => ⟨S8x32x128x2x128, .f32⟩
  | 111 => ⟨S8x32x128x2x128, .f32⟩
  | 112 => ⟨S8x32x128x2x128, .f32⟩
  | 113 => ⟨S8x32x384x2x128, .f32⟩
  | 114 => ⟨S_, .i32⟩
  | 115 => ⟨S_, .f32⟩
  | 116 => ⟨S8x4352x2x128, .f32⟩
  | 117 => ⟨S8x34x128x2x128, .f32⟩
  | 118 => ⟨S8x32x128x2x128, .f32⟩
  | 119 => ⟨S8x32x128x2x128, .f32⟩
  | 120 => ⟨S8x32x128x2x128, .f32⟩
  | 121 => ⟨S8x32x384x2x128, .f32⟩
  | 122 => ⟨S8x32x2x384x128x4, .f32⟩
  | 123 => ⟨S8x32x2x4x128x384, .f32⟩
  | 124 => ⟨S_, .f32⟩
  | 125 => ⟨S8x32x2x4x128x384, .f32⟩
  | 126 => ⟨S8x32x2x4x128x384, .f32⟩
  | 127 => ⟨S32, .i32⟩
  | _ => ⟨S32768x3584, .f32⟩

abbrev hbmTy0_1 (i : Nat) : BufTy := match i % 128 with
  | 0 => ⟨S32x1x1, .i32⟩
  | 1 => ⟨S_, .i32⟩
  | 2 => ⟨S32x1x1, .i32⟩
  | 3 => ⟨S32x1x1, .i32⟩
  | 4 => ⟨S128, .i32⟩
  | 5 => ⟨S1x128x1, .i32⟩
  | 6 => ⟨S32x128x1, .i32⟩
  | 7 => ⟨S32x128x1, .i32⟩
  | 8 => ⟨S32x128x1, .i32⟩
  | 9 => ⟨S_, .i32⟩
  | 10 => ⟨S32x1x1, .i32⟩
  | 11 => ⟨S32x1x1, .i32⟩
  | 12 => ⟨S_, .i32⟩
  | 13 => ⟨S32x1x1, .i32⟩
  | 14 => ⟨S32x1x1, .i32⟩
  | 15 => ⟨S384, .i32⟩
  | 16 => ⟨S1x1x384, .i32⟩
  | 17 => ⟨S32x1x384, .i32⟩
  | 18 => ⟨S32x1x384, .i32⟩
  | 19 => ⟨S32x1x384, .i32⟩
  | 20 => ⟨S32x128x384, .i32⟩
  | 21 => ⟨S32x128x384, .i32⟩
  | 22 => ⟨S32x128x384, .i32⟩
  | 23 => ⟨S32x128x384, .i32⟩
  | 24 => ⟨S_, .i32⟩
  | 25 => ⟨S32x128x384, .i32⟩
  | 26 => ⟨S32x128x384, .i1⟩
  | 27 => ⟨S_, .i32⟩
  | 28 => ⟨S32x1x384, .i32⟩
  | 29 => ⟨S32x1x384, .i1⟩
  | 30 => ⟨S32x128x384, .i1⟩
  | 31 => ⟨S32x128x384, .i1⟩
  | 32 => ⟨S_, .i32⟩
  | 33 => ⟨S32x1x384, .i32⟩
  | 34 => ⟨S32x1x384, .i1⟩
  | 35 => ⟨S32x128x384, .i1⟩
  | 36 => ⟨S32x128x384, .i1⟩
  | 37 => ⟨S1x32x1x1x128x384, .i1⟩
  | 38 => ⟨S_, .f32⟩
  | 39 => ⟨S_, .f32⟩
  | 40 => ⟨S8x32x2x4x128x384, .i1⟩
  | 41 => ⟨S8x32x2x4x128x384, .f32⟩
  | 42 => ⟨S8x32x2x4x128x384, .f32⟩
  | 43 => ⟨S1x1x2x4x1x1, .f32⟩
  | 44 => ⟨S8x32x2x4x128x1, .f32⟩
  | 45 => ⟨S8x32x2x4x128x385, .f32⟩
  | 46 => ⟨S_, .f32⟩
  | 47 => ⟨S8x32x2x4x128, .f32⟩
  | 48 => ⟨S_, .f32⟩
  | 49 => ⟨S8x32x2x4x128, .f32⟩
  | 50 => ⟨S8x32x2x4x128, .f32⟩
  | 51 => ⟨S8x32x2x4x128x1, .f32⟩
  | 52 => ⟨S8x32x2x4x128x385, .f32⟩
  | 53 => ⟨S8x32x2x4x128x385, .f32⟩
  | 54 => ⟨S8x32x2x4x128x385, .f32⟩
  | 55 => ⟨S_, .f32⟩
  | 56 => ⟨S8x32x2x4x128, .f32⟩
  | 57 => ⟨S8x32x2x4x128x1, .f32⟩
  | 58 => ⟨S8x32x2x4x128x385, .f32⟩
  | 59 => ⟨S8x32x2x4x128x385, .f32⟩
  | 60 => ⟨S8x32x2x4x128x384, .f32⟩
  | 61 => ⟨S8x32x2x128x4x128, .f32⟩
  | 62 => ⟨S8x32x128x2x4x128, .f32⟩
  | 63 => ⟨S32768x1024, .f32⟩
  | _ => ⟨S32768x3584, .f32⟩

abbrev hbmTy (i : Nat) : BufTy := match i / 128 with
  | 0 => hbmTy0_0 i
  | 1 => hbmTy0_1 i
  | _ => ⟨S32768x3584, .f32⟩

abbrev bufTy : (tb : Table) → Fin (tcTables nBuf tb) → BufTy
  | .hbm, ⟨i, _⟩ => hbmTy i
  | _, _ => ⟨S32768x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_c : Ref sig .tc := ⟨.hbm, 106, rfl⟩
abbrev main_call0_v0 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_c_9 : Ref sig .tc := ⟨.hbm, 114, rfl⟩
abbrev main_call1_v0 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_c_11 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_c_12 : Ref sig .tc := ⟨.hbm, 137, rfl⟩
abbrev main_v117 : Ref sig .tc := ⟨.hbm, 138, rfl⟩
abbrev main_v118 : Ref sig .tc := ⟨.hbm, 139, rfl⟩
abbrev main_c_13 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_c_14 : Ref sig .tc := ⟨.hbm, 152, rfl⟩
abbrev main_v130 : Ref sig .tc := ⟨.hbm, 153, rfl⟩
abbrev main_v131 : Ref sig .tc := ⟨.hbm, 154, rfl⟩
abbrev main_c_15 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_c_16 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_17 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_18 : Ref sig .tc := ⟨.hbm, 174, rfl⟩
abbrev main_v145 : Ref sig .tc := ⟨.hbm, 175, rfl⟩
abbrev main_cst_19 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_20 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩

abbrev nD : Nat := 1
abbrev τ : Topo := Topo.v7x

variable {F : FTy → Type} [FloatOps F]

def κ : String → Option EReal := fun
  | "mask" => some ⊥
  | _ => none
-- ==== Inproj.lean ====
abbrev S8x4096x2048 : Shape := ⟨3, ![8, 4096, 2048]⟩
abbrev S2048 : Shape := ⟨1, ![2048]⟩
abbrev S2048x3584 : Shape := ⟨2, ![2048, 3584]⟩
abbrev S3584 : Shape := ⟨1, ![3584]⟩
abbrev S32768x2048 : Shape := ⟨2, ![32768, 2048]⟩
abbrev S1x2048 : Shape := ⟨2, ![1, 2048]⟩
abbrev S1x3584 : Shape := ⟨2, ![1, 3584]⟩
abbrev S32768x3584 : Shape := ⟨2, ![32768, 3584]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x3584, .f32⟩
  | .hbm, ⟨3, _⟩ => ⟨S3584, .f32⟩
  | .hbm, ⟨4, _⟩ => ⟨S32768x2048, .f32⟩
  | .hbm, ⟨5, _⟩ => ⟨S1x2048, .f32⟩
  | .hbm, ⟨6, _⟩ => ⟨S2048x3584, .bf16⟩
  | .hbm, ⟨7, _⟩ => ⟨S1x3584, .f32⟩
  | .hbm, ⟨8, _⟩ => ⟨S32768x3584, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S8x4096x2048 : Shape := ⟨3, ![8, 4096, 2048]⟩
abbrev S2048 : Shape := ⟨1, ![2048]⟩
abbrev S2048x3584 : Shape := ⟨2, ![2048, 3584]⟩
abbrev S3584 : Shape := ⟨1, ![3584]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x3584 : Shape := ⟨3, ![8, 4096, 3584]⟩
abbrev S1x1x3584 : Shape := ⟨3, ![1, 1, 3584]⟩
abbrev S32768x3584 : Shape := ⟨2, ![32768, 3584]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x3584, .f32⟩
  | .hbm, ⟨3, _⟩ => ⟨S3584, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x3584, .f32⟩
  | .hbm, ⟨21, _⟩ => ⟨S1x1x3584, .f32⟩
  | .hbm, ⟨22, _⟩ => ⟨S8x4096x3584, .f32⟩
  | .hbm, ⟨23, _⟩ => ⟨S8x4096x3584, .f32⟩
  | .hbm, ⟨24, _⟩ => ⟨S32768x3584, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S2359296x128 : Shape := ⟨2, ![2359296, 128]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S_ : Shape := ⟨0, ![]⟩
abbrev S288x1 : Shape := ⟨2, ![288, 1]⟩
abbrev S8192x128 : Shape := ⟨2, ![8192, 128]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S512x2048 : Shape := ⟨2, ![512, 2048]⟩
abbrev S512x128 : Shape := ⟨2, ![512, 128]⟩
abbrev S2048x512 : Shape := ⟨2, ![2048, 512]⟩
abbrev S512x512 : Shape := ⟨2, ![512, 512]⟩
abbrev S512 : Shape := ⟨1, ![512]⟩
abbrev S1x512 : Shape := ⟨2, ![1, 512]⟩
abbrev S2048 : Shape := ⟨1, ![2048]⟩
abbrev S1x2048 : Shape := ⟨2, ![1, 2048]⟩

abbrev nBuf : Space → Nat
  | .hbm => 27
  | .vmem => 18
  | .smem => 2
  | _ => 0

abbrev bufTy : (tb : Table) → Fin (tcTables nBuf tb) → BufTy
  | .hbm, ⟨0, _⟩ => ⟨S288, .i32⟩
  | .hbm, ⟨1, _⟩ => ⟨S2359296x128, .f32⟩
  | .hbm, ⟨2, _⟩ => ⟨S32x2048x4096, .f32⟩
  | .hbm, ⟨3, _⟩ => ⟨S32x4096, .f32⟩
  | .hbm, ⟨4, _⟩ => ⟨S32x2048x2048, .f32⟩
  | .hbm, ⟨5, _⟩ => ⟨S32x2048, .f32⟩
  | .hbm, ⟨6, _⟩ => ⟨S32x2048x4096, .bf16⟩
  | .hbm, ⟨7, _⟩ => ⟨S32x1x4096, .f32⟩
  | .hbm, ⟨8, _⟩ => ⟨S32x2048x2048, .bf16⟩
  | .hbm, ⟨9, _⟩ => ⟨S32x1x2048, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S288, .i32⟩
  | .hbm, ⟨16, _⟩ => ⟨S288, .i32⟩
  | .hbm, ⟨17, _⟩ => ⟨S288, .i32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S2359296x128, .f32⟩
  | .local _ .vmem, ⟨0, _⟩ => ⟨S8192x128, .f32⟩
  | .local _ .vmem, ⟨1, _⟩ => ⟨S8192x128, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1x1x2048, .f32⟩
  | .local _ .vmem, ⟨13, _⟩ => ⟨S1x1x2048, .f32⟩
  | .local _ .vmem, ⟨14, _⟩ => ⟨S8192x128, .f32⟩
  | .local _ .vmem, ⟨15, _⟩ => ⟨S8192x128, .f32⟩
  | .local _ .vmem, ⟨16, _⟩ => ⟨S512x2048, .bf16⟩
  | .local _ .vmem, ⟨17, _⟩ => ⟨S512x2048, .f32⟩
  | .local _ .smem, ⟨0, _⟩ => ⟨S288, .i32⟩
  | .local _ .smem, ⟨1, _⟩ => ⟨S1, .i32⟩
  | _, _ => ⟨S288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v17 : Ref sig .tc := ⟨.hbm, 26, rfl⟩
abbrev main_v16 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![288, 4], ![false, false]⟩

abbrev pre0 : Pipeline.Prefetch sig := ⟨2, ![main_v16.idx, main_arg1.idx], fun | 0 => main_v16.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond5 (i : grid0.Coords) : BitVec 1 :=
  let arg1 : BitVec 32 := BitVec.ofNat 32 (i 1).val
  let c3_i32_32 : BitVec 32 := 3#32
  let v53 : BitVec 1 := Scalar.cmpi .eq arg1 c3_i32_32
  let v54 : BitVec 32 := Scalar.extui v53
  let c0_i32_33 : BitVec 32 := 0#32
  let v55 : BitVec 1 := Scalar.cmpi .ne v54 c0_i32_33
  v55

def k0_cond6 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c3_i32 : BitVec 32 := 3#32
  let v6 : BitVec 1 := Scalar.cmpi .eq arg1 c3_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c4_i32 : BitVec 32 := 4#32
  let v5 : BitVec 32 := Scalar.addi c4_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c4_i32 : BitVec 32 := 4#32
  let v5 : BitVec 32 := Scalar.addi c4_i32 v4
  let c0_i32 : BitVec 32 := 0#32
  let c0_i32_0 : BitVec 32 := 0#32
  ![v1.toNat, c0_i32.toNat, v5.toNat]

def cc0_transform_5 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S288 : Shape := ⟨1, ![288]⟩
abbrev S1 : Shape := ⟨1, ![1]⟩
abbrev S2359296x128 : Shape := ⟨2, ![2359296, 128]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S288x512x2048 : Shape := ⟨3, ![288, 512, 2048]⟩
abbrev S_ : Shape := ⟨0, ![]⟩
abbrev S288x1 : Shape := ⟨2, ![288, 1]⟩
abbrev S288x2048x4096 : Shape := ⟨3, ![288, 2048, 4096]⟩
abbrev S288x512x4096 : Shape := ⟨3, ![288, 512, 4096]⟩
abbrev S288x4096 : Shape := ⟨2, ![288, 4096]⟩
abbrev S288x1x4096 : Shape := ⟨3, ![288, 1, 4096]⟩
abbrev S288x2048x2048 : Shape := ⟨3, ![288, 2048, 2048]⟩
abbrev S288x2048 : Shape := ⟨2, ![288, 2048]⟩
abbrev S288x1x2048 : Shape := ⟨3, ![288, 1, 2048]⟩
abbrev S288x1x1 : Shape := ⟨3, ![288, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S2359296x128, .f32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S288x512x2048, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x2048x4096, .f32⟩
  | .hbm, ⟨17, _⟩ => ⟨S288x512x4096, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x4096, .f32⟩
  | .hbm, ⟨27, _⟩ => ⟨S288x1x4096, .f32⟩
  | .hbm, ⟨28, _⟩ => ⟨S288x512x4096, .f32⟩
  | .hbm, ⟨29, _⟩ => ⟨S288x512x4096, .f32⟩
  | .hbm, ⟨30, _⟩ => ⟨S288x512x2048, .f32⟩
  | .hbm, ⟨31, _⟩ => ⟨S288x512x2048, .f32⟩
  | .hbm, ⟨32, _⟩ => ⟨S_, .f32⟩
  | .hbm, ⟨33, _⟩ => ⟨S288x512x2048, .f32⟩
  | .hbm, ⟨34, _⟩ => ⟨S288x512x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S288x512x2048, .f32⟩
  | .hbm, ⟨39, _⟩ => ⟨S288x512x2048, .f32⟩
  | .hbm, ⟨40, _⟩ => ⟨S_, .f32⟩
  | .hbm, ⟨41, _⟩ => ⟨S288x512x2048, .f32⟩
  | .hbm, ⟨42, _⟩ => ⟨S288x512x2048, .f32⟩
  | .hbm, ⟨43, _⟩ => ⟨S_, .f32⟩
  | .hbm, ⟨44, _⟩ => ⟨S288x512x2048, .f32⟩
  | .hbm, ⟨45, _⟩ => ⟨S288x512x2048, .f32⟩
  | .hbm, ⟨46, _⟩ => ⟨S_, .f32⟩
  | .hbm, ⟨47, _⟩ => ⟨S288x512x2048, .f32⟩
  | .hbm, ⟨48, _⟩ => ⟨S288x512x2048, .f32⟩
  | .hbm, ⟨49, _⟩ => ⟨S288x512x2048, .f32⟩
  | .hbm, ⟨50, _⟩ => ⟨S288x512x2048, .f32⟩
  | .hbm, ⟨51, _⟩ => ⟨S_, .f32⟩
  | .hbm, ⟨52, _⟩ => ⟨S288x512x2048, .f32⟩
  | .hbm, ⟨53, _⟩ => ⟨S288x512x2048, .f32⟩
  | .hbm, ⟨54, _⟩ => ⟨S_, .f32⟩
  | .hbm, ⟨55, _⟩ => ⟨S288x512x2048, .f32⟩
  | .hbm, ⟨56, _⟩ => ⟨S288x512x2048, .f32⟩
  | .hbm, ⟨57, _⟩ => ⟨S288x512x2048, .f32⟩
  | .hbm, ⟨58, _⟩ => ⟨S288x512x2048, .f32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S_, .i32⟩
  | .hbm, ⟨63, _⟩ => ⟨S288, .i32⟩
  | .hbm, ⟨64, _⟩ => ⟨S288, .i32⟩
  | .hbm, ⟨65, _⟩ => ⟨S288, .i32⟩
  | .hbm, ⟨66, _⟩ => ⟨S288x1, .i32⟩
  | .hbm, ⟨67, _⟩ => ⟨S288x2048x2048, .f32⟩
  | .hbm, ⟨68, _⟩ => ⟨S288x512x2048, .f32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288x2048, .f32⟩
  | .hbm, ⟨78, _⟩ => ⟨S288x1x2048, .f32⟩
  | .hbm, ⟨79, _⟩ => ⟨S288x512x2048, .f32⟩
  | .hbm, ⟨80, _⟩ => ⟨S288x512x2048, .f32⟩
  | .hbm, ⟨81, _⟩ => ⟨S288, .i32⟩
  | .hbm, ⟨82, _⟩ => ⟨S288x1x1, .i32⟩
  | .hbm, ⟨83, _⟩ => ⟨S_, .i32⟩
  | .hbm, ⟨84, _⟩ => ⟨S288x1x1, .i32⟩
  | .hbm, ⟨85, _⟩ => ⟨S288x1x1, .i1⟩
  | .hbm, ⟨86, _⟩ => ⟨S_, .f32⟩
  | .hbm, ⟨87, _⟩ => ⟨S_, .f32⟩
  | .hbm, ⟨88, _⟩ => ⟨S288x512x2048, .i1⟩
  | .hbm, ⟨89, _⟩ => ⟨S288x512x2048, .f32⟩
  | .hbm, ⟨90, _⟩ => ⟨S288x512x2048, .f32⟩
  | .hbm, ⟨91, _⟩ => ⟨S2359296x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Outproj.lean ====
abbrev S32768x1024 : Shape := ⟨2, ![32768, 1024]⟩
abbrev S32768x2048 : Shape := ⟨2, ![32768, 2048]⟩
abbrev S1024 : Shape := ⟨1, ![1024]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S1x2048 : Shape := ⟨2, ![1, 2048]⟩
abbrev S524288x128 : Shape := ⟨2, ![524288, 128]⟩
abbrev S32768x128 : Shape := ⟨2, ![32768, 128]⟩
abbrev S8x128 : Shape := ⟨2, ![8, 128]⟩
abbrev S512x1024 : Shape := ⟨2, ![512, 1024]⟩
abbrev S512x2048 : Shape := ⟨2, ![512, 2048]⟩
abbrev S8192x128 : Shape := ⟨2, ![8192, 128]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S512x512 : Shape := ⟨2, ![512, 512]⟩
abbrev S128 : Shape := ⟨1, ![128]⟩

abbrev nBuf : Space → Nat
  | .hbm => 30
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x2048, .f32⟩
  | .hbm, ⟨3, _⟩ => ⟨S1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x32, .f32⟩
  | .hbm, ⟨8, _⟩ => ⟨S32, .f32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S1, .i32⟩
  | .hbm, ⟨13, _⟩ => ⟨S2048x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x1024, .f32⟩
  | .hbm, ⟨23, _⟩ => ⟨S1x1024, .f32⟩
  | .hbm, ⟨24, _⟩ => ⟨S2048x2048, .bf16⟩
  | .hbm, ⟨25, _⟩ => ⟨S1x2048, .f32⟩
  | .hbm, ⟨26, _⟩ => ⟨S32768x2048, .f32⟩
  | .hbm, ⟨27, _⟩ => ⟨S524288x128, .f32⟩
  | .hbm, ⟨28, _⟩ => ⟨S32768x128, .f32⟩
  | .hbm, ⟨29, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1x1024, .f32⟩
  | .local _ .vmem, ⟨8, _⟩ => ⟨S2048x2048, .bf16⟩
  | .local _ .vmem, ⟨9, _⟩ => ⟨S1x2048, .f32⟩
  | .local _ .vmem, ⟨10, _⟩ => ⟨S2048x128, .f32⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S8192x128, .f32⟩
  | .local _ .vmem, ⟨15, _⟩ => ⟨S8192x128, .f32⟩
  | .local _ .vmem, ⟨16, _⟩ => ⟨S512x128, .f32⟩
  | .local _ .vmem, ⟨17, _⟩ => ⟨S512x128, .f32⟩
  | .local _ .vmem, ⟨18, _⟩ => ⟨S8x128, .f32⟩
  | .local _ .vmem, ⟨19, _⟩ => ⟨S8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutprojRefIdeal.lean ====
abbrev S32768x1024 : Shape := ⟨2, ![32768, 1024]⟩
abbrev S32768x2048 : Shape := ⟨2, ![32768, 2048]⟩
abbrev S1024 : Shape := ⟨1, ![1024]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x2048 : Shape := ⟨2, ![1, 2048]⟩
abbrev S524288x128 : Shape := ⟨2, ![524288, 128]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x2048, .f32⟩
  | .hbm, ⟨3, _⟩ => ⟨S1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x32, .f32⟩
  | .hbm, ⟨8, _⟩ => ⟨S32, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S1x1024, .f32⟩
  | .hbm, ⟨39, _⟩ => ⟨S32768x1024, .f32⟩
  | .hbm, ⟨40, _⟩ => ⟨S32768x1024, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S1x2048, .f32⟩
  | .hbm, ⟨58, _⟩ => ⟨S32768x2048, .f32⟩
  | .hbm, ⟨59, _⟩ => ⟨S32768x2048, .f32⟩
  | .hbm, ⟨60, _⟩ => ⟨S524288x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.OutprojIdealRun.lean ====
/-
  The body of the output projection's kernel, run once: at the first point of the grid, where the carried counts are set to
  zero, and at a later one. Each gives the pieces stored into the four outputs and the carried counts.
-/
module

public import proofs.«01_k».proof.Defs
public import proofs.«01_k».proof.Proof.Gen.OutprojIdeal
public import proofs.«01_k».proof.Proof.Gen.OutprojIdeal.Launch
public import proofs.«01_k».proof.Proof.Gen.OutprojIdeal.Skeleton
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.ValueIdx
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Mathlib.Tactic.IntervalCases

@[expose] public section

set_option maxRecDepth 16384
set_option Elab.async false

noncomputable section

namespace Cert.OutprojIdeal.Run

open Cert.OutprojIdeal Cert.OutprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- The carried counts, whole. -/
abbrev sc0 : Memref sig .tc .vmem S8x128 .f32 := Memref.whole cc0_scratch0

/-- Whether the grid coordinate is zero, as the body computes it. -/
abbrev condZ (i : grid0.Coords) : BitVec 1 := Scalar.cmpi .ne (Scalar.extui (Scalar.cmpi .eq (BitVec.ofNat 32 (i 0).val) 0#32)) (0#32 : BitVec 32)

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S512x2048 .f32) (harg10 : arg10.IsWhole) (arg11 : Memref sig .tc .vmem S8192x128 .f32) (harg11 : arg11.IsWhole) (arg12 : Memref sig .tc .vmem S512x128 .f32) (harg12 : arg12.IsWhole) (arg13 : Memref sig .tc .vmem S8x128 .f32) (harg13 : arg13.IsWhole) (arg14 : Memref sig .tc .vmem S8x128 .f32) (harg14 : arg14.IsWhole)
  (x0 : S512x1024.Idx → Elt F .f32) (x1 : S512x1024.Idx → Elt F .f32) (x2 : S512x2048.Idx → Elt F .f32) (x3 : S1x1024.Idx → Elt F .f32) (x4 : S1x1024.Idx → Elt F .f32) (x5 : S2048x2048.Idx → Elt F .bf16) (x6 : S1x2048.Idx → Elt F .f32) (x7 : S2048x128.Idx → Elt F .f32) (x8 : S1x128.Idx → Elt F .f32) (xs0 : S8x128.Idx → Elt F .f32)

set_option backward.proofsInPublic true in
set_option maxHeartbeats 16000000 in
/-- The first point: the carried counts are set to zero first. -/
noncomputable def runA (hZ : condZ i = 1#1) :
    Σ' (L9 : List (View.Piece (Elt F) S512x2048 .f32)) (L10 : List (View.Piece (Elt F) S8192x128 .f32)) (L11 : List (View.Piece (Elt F) S512x128 .f32)) (L12 : List (View.Piece (Elt F) S8x128 .f32)), { LS : List (View.Piece (Elt F) S8x128 .f32) //
      ∀ (K : PUnit → sProp 𝕄),
        iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ f, arg10.view.loc (c : Thread nD τ) ↦[arg10.view.set]{fullShare} arg10.view.writes (Elt F) f L9)
          ∗ (∃ f, arg11.view.loc (c : Thread nD τ) ↦[arg11.view.set]{fullShare} arg11.view.writes (Elt F) f L10)
          ∗ (∃ f, arg12.view.loc (c : Thread nD τ) ↦[arg12.view.set]{fullShare} arg12.view.writes (Elt F) f L11)
          ∗ (∃ f, arg13.view.loc (c : Thread nD τ) ↦[arg13.view.set]{fullShare} arg13.view.writes (Elt F) f L12)
          ∗ (∃ f, arg14.view.loc (c : Thread nD τ) ↦[arg14.view.set]{fullShare} arg14.view.writes (Elt F) f LS)) -∗ K ⟨⟩))
          ⊢ wp frame (wpE (defs₀ (F := F)) Variants.none c none) Set.univ (cc0_outproj_router i arg1 harg1 arg2 harg2 arg3 harg3 arg4 harg4 arg5 harg5 arg6 harg6 arg7 harg7 arg8 harg8 arg9 harg9 arg10 harg10 arg11 harg11 arg12 harg12 arg13 harg13 arg14 harg14) K } :=
  ⟨_, _, _, _, _, fun K => by
    unfold owns
    simp only [cc0_outproj_router_eq_skeleton]; unfold cc0_outproj_router_skel
    simp only [k0_part1_eq_skeleton, k0_part2_eq_skeleton, k0_part3_eq_skeleton, k0_part4_eq_skeleton, k0_part5_eq_skeleton, k0_part6_eq_skeleton, k0_part7_eq_skeleton]
    iintro ⟨H0, H1, H2, H3, H4, H5, H6, H7, H8, ⟨%d9, %f9, -, H9⟩, ⟨%d10, %f10, -, H10⟩, ⟨%d11, %f11, -, H11⟩, ⟨%d12, %f12, -, H12⟩, ⟨%ds, %fs, -, HS⟩, Hk⟩
    sl_exec! (disch := first | exact hZ)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact HS⟩

set_option backward.proofsInPublic true in
set_option maxHeartbeats 16000000 in
/-- A later point: the carried counts are those the point before left. -/
noncomputable def runB (hZ : ¬(condZ i = 1#1)) :
    Σ' (L9 : List (View.Piece (Elt F) S512x2048 .f32)) (L10 : List (View.Piece (Elt F) S8192x128 .f32)) (L11 : List (View.Piece (Elt F) S512x128 .f32)) (L12 : List (View.Piece (Elt F) S8x128 .f32)), { LS : List (View.Piece (Elt F) S8x128 .f32) //
      ∀ (K : PUnit → sProp 𝕄),
        iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ owns (c : Thread nD τ) arg14 fullShare xs0
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ f, arg10.view.loc (c : Thread nD τ) ↦[arg10.view.set]{fullShare} arg10.view.writes (Elt F) f L9)
          ∗ (∃ f, arg11.view.loc (c : Thread nD τ) ↦[arg11.view.set]{fullShare} arg11.view.writes (Elt F) f L10)
          ∗ (∃ f, arg12.view.loc (c : Thread nD τ) ↦[arg12.view.set]{fullShare} arg12.view.writes (Elt F) f L11)
          ∗ (∃ f, arg13.view.loc (c : Thread nD τ) ↦[arg13.view.set]{fullShare} arg13.view.writes (Elt F) f L12)
          ∗ (∃ f, arg14.view.loc (c : Thread nD τ) ↦[arg14.view.set]{fullShare} arg14.view.writes (Elt F) f LS)) -∗ K ⟨⟩))
          ⊢ wp frame (wpE (defs₀ (F := F)) Variants.none c none) Set.univ (cc0_outproj_router i arg1 harg1 arg2 harg2 arg3 harg3 arg4 harg4 arg5 harg5 arg6 harg6 arg7 harg7 arg8 harg8 arg9 harg9 arg10 harg10 arg11 harg11 arg12 harg12 arg13 harg13 arg14 harg14) K } :=
  ⟨_, _, _, _, _, fun K => by
    unfold owns
    simp only [cc0_outproj_router_eq_skeleton]; unfold cc0_outproj_router_skel
    simp only [k0_part1_eq_skeleton, k0_part2_eq_skeleton, k0_part3_eq_skeleton, k0_part4_eq_skeleton, k0_part5_eq_skeleton, k0_part6_eq_skeleton, k0_part7_eq_skeleton]
    iintro ⟨H0, H1, H2, H3, H4, H5, H6, H7, H8, ⟨%d9, %f9, -, H9⟩, ⟨%d10, %f10, -, H10⟩, ⟨%d11, %f11, -, H11⟩, ⟨%d12, %f12, -, H12⟩, ⟨%fs, %hfs, HS⟩, Hk⟩
    obtain rfl := harg14.eq_unread hfs
    sl_exec! (disch := first | exact hZ)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact HS⟩

/-- The residual sum at a block of rows, as the body computes it. -/
def X2 (x0 : S512x1024.Idx → Elt F .f32) (x1 : S512x1024.Idx → Elt F .f32) (x2 : S512x2048.Idx → Elt F .f32) (x3 : S1x1024.Idx → Elt F .f32) (x4 : S1x1024.Idx → Elt F .f32) (x5 : S2048x2048.Idx → Elt F .bf16) : FVec F S512x2048 .f32 :=
  k0_pay5 (k0_pay3 x1 x4) (k0_pay4 x0 x3 (VecWindow.window x5 ![0, 0] S1024x2048.size inb_S2048x2048_S1024x2048_0_0)) (VecWindow.window x5 ![1024, 0] S1024x2048.size inb_S2048x2048_S1024x2048_1024_0) x2

/-- The same rows after the norm. -/
def NRM (x0 : S512x1024.Idx → Elt F .f32) (x1 : S512x1024.Idx → Elt F .f32) (x2 : S512x2048.Idx → Elt F .f32) (x3 : S1x1024.Idx → Elt F .f32) (x4 : S1x1024.Idx → Elt F .f32) (x5 : S2048x2048.Idx → Elt F .bf16) (x6 : S1x2048.Idx → Elt F .f32) : FVec F S512x2048 .f32 :=
  k0_pay6 (k0_pay3 x1 x4) (k0_pay4 x0 x3 (VecWindow.window x5 ![0, 0] S1024x2048.size inb_S2048x2048_S1024x2048_0_0)) (VecWindow.window x5 ![1024, 0] S1024x2048.size inb_S2048x2048_S1024x2048_1024_0) x2 x6

/-- A block of 512 rows laid out as 8192 rows of 128. -/
def tileOf (v : S512x2048.Idx → Elt F .f32) : S8192x128.Idx → Elt F .f32 := fun y =>
  v (ix2 (⟨(y 0).val / 16, by have h : (y 0).val < 8192 := (y 0).isLt; omega⟩ : Fin 512) (⟨128 * ((y 0).val % 16) + (y 1).val, by have h : (y 1).val < 128 := (y 1).isLt; omega⟩ : Fin 2048))

theorem row_mem (k : ℕ) (h : ∀ a, S512x128.size a = 0 ∨ (![k, 0] : Fin 2 → ℕ) a + (![16, 1] : Fin 2 → ℕ) a * (S512x128.size a - 1) < S8192x128.size a)
    (hs : ∀ a, 0 < (![16, 1] : Fin 2 → ℕ) a) (y : S8192x128.Idx) (hy : (y 0).val % 16 = k) :
    y ∈ ({ off := ![k, 0], size := S512x128.size, stride := ![16, 1], inb := h, stride_pos := hs } : Rect S8192x128).set := by
  rw [← Rect.map_emb_univ]
  have h0 : (y 0).val < 8192 := (y 0).isLt
  have h1 : (y 1).val < 128 := (y 1).isLt
  refine Finset.mem_map.2 ⟨ix2 (⟨(y 0).val / 16, by omega⟩ : Fin 512) (⟨(y 1).val, h1⟩ : Fin 128), Finset.mem_univ _, funext fun a => Fin.ext ?_⟩
  match a with
  | ⟨0, _⟩ => show k + 16 * ((y 0).val / 16) = (y 0).val; omega
  | ⟨1, _⟩ => show 0 + 1 * (y 1).val = (y 1).val; omega

/-- A column block of the rows, stored to every sixteenth row, is the tile's own entries there. -/
theorem slice_tile (v : S512x2048.Idx → Elt F .f32) (k : ℕ) (hk : k < 16)
    (h : ∀ a, S512x128.size a = 0 ∨ (![k, 0] : Fin 2 → ℕ) a + (![16, 1] : Fin 2 → ℕ) a * (S512x128.size a - 1) < S8192x128.size a)
    (hs : ∀ a, 0 < (![16, 1] : Fin 2 → ℕ) a) (h' : S512x2048.Slices ![0, 128 * k] S512x128) (x : S512x128.Idx) :
    extractStridedSlice S512x128 ![0, 128 * k] v h' x
      = tileOf v (({ off := ![k, 0], size := S512x128.size, stride := ![16, 1], inb := h, stride_pos := hs } : Rect S8192x128).emb x) := by
  unfold tileOf extractStridedSlice
  have h0 : (x 0).val < 512 := (x 0).isLt
  have h1 : (x 1).val < 128 := (x 1).isLt
  refine congrArg v (funext fun a => Fin.ext ?_)
  match a with
  | ⟨0, _⟩ =>
    show 0 + (x 0).val = (k + 16 * (x 0).val) / 16
    omega
  | ⟨1, _⟩ =>
    show 128 * k + (x 1).val = 128 * ((k + 16 * (x 0).val) % 16) + (0 + 1 * (x 1).val)
    omega

/-- What a view holds after its whole shape is stored last. -/
theorem read_whole {sp : Space} {s : Shape} {e : EltTy} (v : View sig .tc sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f (⟨Rect.unit off s.size inb, w⟩ :: L)) = w := by
  funext y
  have h : (Rect.unit off s.size inb).emb y = y := funext fun a => Fin.ext (by
    show off a + 1 * (y a).val = (y a).val
    have := inb a; omega)
  conv_lhs => rw [← h]
  exact View.read_writes_cons_emb v f (Rect.unit off s.size inb) w L y

theorem rA : runA.sl.r arg2 arg5 x1 x4 = k0_pay3 (F := F) x1 x4 := by
  delta runA.sl.r
  rw [View.readAt_rep_full, View.readAt_rep_full]

theorem rA_1 : runA.sl.r_1 arg1 arg4 arg6 x0 x3 x5 = k0_pay4 (F := F) x0 x3 (VecWindow.window x5 ![0, 0] S1024x2048.size inb_S2048x2048_S1024x2048_0_0) := by
  delta runA.sl.r_1
  rw [View.readAt_rep_full, View.readAt_rep_full, View.readAt_rep_unit arg6.view x5 _ rfl inb_S2048x2048_S1024x2048_0_0]

theorem rA_2 : runA.sl.r_2 arg1 arg2 arg3 arg4 arg5 arg6 arg7 x0 x1 x2 x3 x4 x5 x6 = NRM (F := F) x0 x1 x2 x3 x4 x5 x6 := by
  delta runA.sl.r_2
  rw [rA, rA_1, View.readAt_rep_full, View.readAt_rep_full, View.readAt_rep_unit arg6.view x5 _ rfl inb_S2048x2048_S1024x2048_1024_0]
  rfl

theorem outA_9 (hZ : condZ i = 1#1) (v : View sig .tc .vmem S512x2048 .f32) (f : v.ty.Contents (Elt F)) :
    v.read (Elt F) (v.writes (Elt F) f (runA (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hZ).1) = X2 x0 x1 x2 x3 x4 x5 := by
  unfold runA
  dsimp only
  refine (read_whole _ _ _ _ _).trans ?_
  rw [rA, rA_1, View.readAt_rep_full, View.readAt_rep_unit arg6.view x5 _ rfl inb_S2048x2048_S1024x2048_1024_0]
  rfl

set_option maxHeartbeats 1600000 in
theorem outA_10 (hZ : condZ i = 1#1) (v : View sig .tc .vmem S8192x128 .f32) (f : v.ty.Contents (Elt F)) :
    v.read (Elt F) (v.writes (Elt F) f (runA (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hZ).2.1) = tileOf (NRM x0 x1 x2 x3 x4 x5 x6) := by
  have h3 : View.readAt (Elt F) arg3.view (Rect.unit (s := S512x2048) ![0, 0] ![512, 2048] inb_S512x2048_S512x2048_0_0).toLoadRect (arg3.view.rep x2) = x2 :=
    View.readAt_rep_full arg3.view x2 _
  have h6 : View.readAt (Elt F) arg6.view (Rect.unit (s := S2048x2048) ![1024, 0] ![1024, 2048] inb_S2048x2048_S1024x2048_1024_0).toLoadRect (arg6.view.rep x5) = VecWindow.window x5 ![1024, 0] S1024x2048.size inb_S2048x2048_S1024x2048_1024_0 :=
    View.readAt_rep_unit arg6.view x5 _ rfl inb_S2048x2048_S1024x2048_1024_0
  have h7 : View.readAt (Elt F) arg7.view (Rect.unit (s := S1x2048) ![0, 0] ![1, 2048] inb_S1x2048_S1x2048_0_0).toLoadRect (arg7.view.rep x6) = x6 :=
    View.readAt_rep_full arg7.view x6 _
  funext y
  unfold runA
  dsimp only
  try delta runA.sl.H10_16
  refine View.read_writes_apply_of_pieces v f _ _ ?_ y ?_
  · simp only [List.forall_mem_cons, List.not_mem_nil, IsEmpty.forall_iff, implies_true, _root_.and_true]
    delta runA.sl.r_3
    simp only [rA, rA_1, rA_2, h3, h6, h7]
    refine ⟨fun x => slice_tile (F := F) (NRM x0 x1 x2 x3 x4 x5 x6) 15 (by norm_num) inb_S8192x128_S512x128_15_0_s_16_1 spos_16_1 slices_S512x2048_o0_1920_S512x128 x,
      fun x => slice_tile (F := F) (NRM x0 x1 x2 x3 x4 x5 x6) 14 (by norm_num) inb_S8192x128_S512x128_14_0_s_16_1 spos_16_1 slices_S512x2048_o0_1792_S512x128 x,
      fun x => slice_tile (F := F) (NRM x0 x1 x2 x3 x4 x5 x6) 13 (by norm_num) inb_S8192x128_S512x128_13_0_s_16_1 spos_16_1 slices_S512x2048_o0_1664_S512x128 x,
      fun x => slice_tile (F := F) (NRM x0 x1 x2 x3 x4 x5 x6) 12 (by norm_num) inb_S8192x128_S512x128_12_0_s_16_1 spos_16_1 slices_S512x2048_o0_1536_S512x128 x,
      fun x => slice_tile (F := F) (NRM x0 x1 x2 x3 x4 x5 x6) 11 (by norm_num) inb_S8192x128_S512x128_11_0_s_16_1 spos_16_1 slices_S512x2048_o0_1408_S512x128 x,
      fun x => slice_tile (F := F) (NRM x0 x1 x2 x3 x4 x5 x6) 10 (by norm_num) inb_S8192x128_S512x128_10_0_s_16_1 spos_16_1 slices_S512x2048_o0_1280_S512x128 x,
      fun x => slice_tile (F := F) (NRM x0 x1 x2 x3 x4 x5 x6) 9 (by norm_num) inb_S8192x128_S512x128_9_0_s_16_1 spos_16_1 slices_S512x2048_o0_1152_S512x128 x,
      fun x => slice_tile (F := F) (NRM x0 x1 x2 x3 x4 x5 x6) 8 (by norm_num) inb_S8192x128_S512x128_8_0_s_16_1 spos_16_1 slices_S512x2048_o0_1024_S512x128 x,
      fun x => slice_tile (F := F) (NRM x0 x1 x2 x3 x4 x5 x6) 7 (by norm_num) inb_S8192x128_S512x128_7_0_s_16_1 spos_16_1 slices_S512x2048_o0_896_S512x128 x,
      fun x => slice_tile (F := F) (NRM x0 x1 x2 x3 x4 x5 x6) 6 (by norm_num) inb_S8192x128_S512x128_6_0_s_16_1 spos_16_1 slices_S512x2048_o0_768_S512x128 x,
      fun x => slice_tile (F := F) (NRM x0 x1 x2 x3 x4 x5 x6) 5 (by norm_num) inb_S8192x128_S512x128_5_0_s_16_1 spos_16_1 slices_S512x2048_o0_640_S512x128 x,
      fun x => slice_tile (F := F) (NRM x0 x1 x2 x3 x4 x5 x6) 4 (by norm_num) inb_S8192x128_S512x128_4_0_s_16_1 spos_16_1 slices_S512x2048_o0_512_S512x128 x,
      fun x => slice_tile (F := F) (NRM x0 x1 x2 x3 x4 x5 x6) 3 (by norm_num) inb_S8192x128_S512x128_3_0_s_16_1 spos_16_1 slices_S512x2048_o0_384_S512x128 x,
      fun x => slice_tile (F := F) (NRM x0 x1 x2 x3 x4 x5 x6) 2 (by norm_num) inb_S8192x128_S512x128_2_0_s_16_1 spos_16_1 slices_S512x2048_o0_256_S512x128 x,
      fun x => slice_tile (F := F) (NRM x0 x1 x2 x3 x4 x5 x6) 1 (by norm_num) inb_S8192x128_S512x128_1_0_s_16_1 spos_16_1 slices_S512x2048_o0_128_S512x128 x,
      fun x => slice_tile (F := F) (NRM x0 x1 x2 x3 x4 x5 x6) 0 (by norm_num) inb_S8192x128_S512x128_0_0_s_16_1 spos_16_1 slices_S512x2048_o0_0_S512x128 x⟩
  · simp only [List.exists_mem_cons_iff]
    have h1 : (y 0).val % 16 < 16 := Nat.mod_lt _ (by norm_num)
    obtain ⟨k, hk⟩ : ∃ k, (y 0).val % 16 = k := ⟨_, rfl⟩
    rw [hk] at h1
    interval_cases k
    · exact Or.inr (Or.inr (Or.inr (Or.inr (Or.inr (Or.inr (Or.inr (Or.inr (Or.inr (Or.inr (Or.inr (Or.inr (Or.inr (Or.inr (Or.inr (Or.inl (row_mem 0 inb_S8192x128_S512x128_0_0_s_16_1 spos_16_1 y hk))))))))))))))))
    · exact Or.inr (Or.inr (Or.inr (Or.inr (Or.inr (Or.inr (Or.inr (Or.inr (Or.inr (Or.inr (Or.inr (Or.inr (Or.inr (Or.inr (Or.inl (row_mem 1 inb_S8192x128_S512x128_1_0_s_16_1 spos_16_1 y hk)))))))))))))))
    · exact Or.inr (Or.inr (Or.inr (Or.inr (Or.inr (Or.inr (Or.inr (Or.inr (Or.inr (Or.inr (Or.inr (Or.inr (Or.inr (Or.inl (row_mem 2 inb_S8192x128_S512x128_2_0_s_16_1 spos_16_1 y hk))))))))))))))
    · exact Or.inr (Or.inr (Or.inr (Or.inr (Or.inr (Or.inr (Or.inr (Or.inr (Or.inr (Or.inr (Or.inr (Or.inr (Or.inl (row_mem 3 inb_S8192x128_S512x128_3_0_s_16_1 spos_16_1 y hk)))))))))))))
    · exact Or.inr (Or.inr (Or.inr (Or.inr (Or.inr (Or.inr (Or.inr (Or.inr (Or.inr (Or.inr (Or.inr (Or.inl (row_mem 4 inb_S8192x128_S512x128_4_0_s_16_1 spos_16_1 y hk))))))))))))
    · exact Or.inr (Or.inr (Or.inr (Or.inr (Or.inr (Or.inr (Or.inr (Or.inr (Or.inr (Or.inr (Or.inl (row_mem 5 inb_S8192x128_S512x128_5_0_s_16_1 spos_16_1 y hk)))))))))))
    · exact Or.inr (Or.inr (Or.inr (Or.inr (Or.inr (Or.inr (Or.inr (Or.inr (Or.inr (Or.inl (row_mem 6 inb_S8192x128_S512x128_6_0_s_16_1 spos_16_1 y hk))))))))))
    · exact Or.inr (Or.inr (Or.inr (Or.inr (Or.inr (Or.inr (Or.inr (Or.inr (Or.inl (row_mem 7 inb_S8192x128_S512x128_7_0_s_16_1 spos_16_1 y hk)))))))))
    · exact Or.inr (Or.inr (Or.inr (Or.inr (Or.inr (Or.inr (Or.inr (Or.inl (row_mem 8 inb_S8192x128_S512x128_8_0_s_16_1 spos_16_1 y hk))))))))
    · exact Or.inr (Or.inr (Or.inr (Or.inr (Or.inr (Or.inr (Or.inl (row_mem 9 inb_S8192x128_S512x128_9_0_s_16_1 spos_16_1 y hk)))))))
    · exact Or.inr (Or.inr (Or.inr (Or.inr (Or.inr (Or.inl (row_mem 10 inb_S8192x128_S512x128_10_0_s_16_1 spos_16_1 y hk))))))
    · exact Or.inr (Or.inr (Or.inr (Or.inr (Or.inl (row_mem 11 inb_S8192x128_S512x128_11_0_s_16_1 spos_16_1 y hk)))))
    · exact Or.inr (Or.inr (Or.inr (Or.inl (row_mem 12 inb_S8192x128_S512x128_12_0_s_16_1 spos_16_1 y hk))))
    · exact Or.inr (Or.inr (Or.inl (row_mem 13 inb_S8192x128_S512x128_13_0_s_16_1 spos_16_1 y hk)))
    · exact Or.inr (Or.inl (row_mem 14 inb_S8192x128_S512x128_14_0_s_16_1 spos_16_1 y hk))
    · exact Or.inl (row_mem 15 inb_S8192x128_S512x128_15_0_s_16_1 spos_16_1 y hk)

theorem outA_11 (hZ : condZ i = 1#1) (v v' : View sig .tc .vmem S512x128 .f32) (f : v.ty.Contents (Elt F)) (f' : v'.ty.Contents (Elt F)) :
    v.read (Elt F) (v.writes (Elt F) f (runA (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hZ).2.2.1) = v'.read (Elt F) (v'.writes (Elt F) f' (runA (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hZ).2.2.1) := by
  unfold runA
  dsimp only
  try delta runA.sl.H11_1
  refine (read_whole _ _ _ _ _).trans ?_
  symm
  refine (read_whole _ _ _ _ _).trans ?_
  rfl

theorem outA_12 (hZ : condZ i = 1#1) (v v' : View sig .tc .vmem S8x128 .f32) (f : v.ty.Contents (Elt F)) (f' : v'.ty.Contents (Elt F)) :
    v.read (Elt F) (v.writes (Elt F) f (runA (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hZ).2.2.2.1) = v'.read (Elt F) (v'.writes (Elt F) f' (runA (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hZ).2.2.2.1) := by
  unfold runA
  dsimp only
  try delta runA.sl.H12_1
  refine (read_whole _ _ _ _ _).trans ?_
  symm
  refine (read_whole _ _ _ _ _).trans ?_
  rfl

theorem outA_S (hZ : condZ i = 1#1) (v v' : View sig .tc .vmem S8x128 .f32) (f : v.ty.Contents (Elt F)) (f' : v'.ty.Contents (Elt F)) :
    v.read (Elt F) (v.writes (Elt F) f (runA (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hZ).2.2.2.2.1) = v'.read (Elt F) (v'.writes (Elt F) f' (runA (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hZ).2.2.2.2.1) := by
  unfold runA
  dsimp only
  delta runA.sl.HS_2
  refine (read_whole _ _ _ _ _).trans ?_
  symm
  refine (read_whole _ _ _ _ _).trans ?_
  rfl

theorem rB : runB.sl.r arg2 arg5 x1 x4 = k0_pay3 (F := F) x1 x4 := by
  delta runB.sl.r
  rw [View.readAt_rep_full, View.readAt_rep_full]

theorem rB_1 : runB.sl.r_1 arg1 arg4 arg6 x0 x3 x5 = k0_pay4 (F := F) x0 x3 (VecWindow.window x5 ![0, 0] S1024x2048.size inb_S2048x2048_S1024x2048_0_0) := by
  delta runB.sl.r_1
  rw [View.readAt_rep_full, View.readAt_rep_full, View.readAt_rep_unit arg6.view x5 _ rfl inb_S2048x2048_S1024x2048_0_0]

theorem rB_2 : runB.sl.r_2 arg1 arg2 arg3 arg4 arg5 arg6 arg7 x0 x1 x2 x3 x4 x5 x6 = NRM (F := F) x0 x1 x2 x3 x4 x5 x6 := by
  delta runB.sl.r_2
  rw [rB, rB_1, View.readAt_rep_full, View.readAt_rep_full, View.readAt_rep_unit arg6.view x5 _ rfl inb_S2048x2048_S1024x2048_1024_0]
  rfl

theorem outB_9 (hZ : ¬(condZ i = 1#1)) (v : View sig .tc .vmem S512x2048 .f32) (f : v.ty.Contents (Elt F)) :
    v.read (Elt F) (v.writes (Elt F) f (runB (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 hZ).1) = X2 x0 x1 x2 x3 x4 x5 := by
  unfold runB
  dsimp only
  refine (read_whole _ _ _ _ _).trans ?_
  rw [rB, rB_1, View.readAt_rep_full, View.readAt_rep_unit arg6.view x5 _ rfl inb_S2048x2048_S1024x2048_1024_0]
  rfl

set_option maxHeartbeats 1600000 in
theorem outB_10 (hZ : ¬(condZ i = 1#1)) (v : View sig .tc .vmem S8192x128 .f32) (f : v.ty.Contents (Elt F)) :
    v.read (Elt F) (v.writes (Elt F) f (runB (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 hZ).2.1) = tileOf (NRM x0 x1 x2 x3 x4 x5 x6) := by
  have h3 : View.readAt (Elt F) arg3.view (Rect.unit (s := S512x2048) ![0, 0] ![512, 2048] inb_S512x2048_S512x2048_0_0).toLoadRect (arg3.view.rep x2) = x2 :=
    View.readAt_rep_full arg3.view x2 _
  have h6 : View.readAt (Elt F) arg6.view (Rect.unit (s := S2048x2048) ![1024, 0] ![1024, 2048] inb_S2048x2048_S1024x2048_1024_0).toLoadRect (arg6.view.rep x5) = VecWindow.window x5 ![1024, 0] S1024x2048.size inb_S2048x2048_S1024x2048_1024_0 :=
    View.readAt_rep_unit arg6.view x5 _ rfl inb_S2048x2048_S1024x2048_1024_0
  have h7 : View.readAt (Elt F) arg7.view (Rect.unit (s := S1x2048) ![0, 0] ![1, 2048] inb_S1x2048_S1x2048_0_0).toLoadRect (arg7.view.rep x6) = x6 :=
    View.readAt_rep_full arg7.view x6 _
  funext y
  unfold runB
  dsimp only
  try delta runB.sl.H10_16
  refine View.read_writes_apply_of_pieces v f _ _ ?_ y ?_
  · simp only [List.forall_mem_cons, List.not_mem_nil, IsEmpty.forall_iff, implies_true, _root_.and_true]
    delta runB.sl.r_3
    simp only [rB, rB_1, rB_2, h3, h6, h7]
    refine ⟨fun x => slice_tile (F := F) (NRM x0 x1 x2 x3 x4 x5 x6) 15 (by norm_num) inb_S8192x128_S512x128_15_0_s_16_1 spos_16_1 slices_S512x2048_o0_1920_S512x128 x,
      fun x => slice_tile (F := F) (NRM x0 x1 x2 x3 x4 x5 x6) 14 (by norm_num) inb_S8192x128_S512x128_14_0_s_16_1 spos_16_1 slices_S512x2048_o0_1792_S512x128 x,
      fun x => slice_tile (F := F) (NRM x0 x1 x2 x3 x4 x5 x6) 13 (by norm_num) inb_S8192x128_S512x128_13_0_s_16_1 spos_16_1 slices_S512x2048_o0_1664_S512x128 x,
      fun x => slice_tile (F := F) (NRM x0 x1 x2 x3 x4 x5 x6) 12 (by norm_num) inb_S8192x128_S512x128_12_0_s_16_1 spos_16_1 slices_S512x2048_o0_1536_S512x128 x,
      fun x => slice_tile (F := F) (NRM x0 x1 x2 x3 x4 x5 x6) 11 (by norm_num) inb_S8192x128_S512x128_11_0_s_16_1 spos_16_1 slices_S512x2048_o0_1408_S512x128 x,
      fun x => slice_tile (F := F) (NRM x0 x1 x2 x3 x4 x5 x6) 10 (by norm_num) inb_S8192x128_S512x128_10_0_s_16_1 spos_16_1 slices_S512x2048_o0_1280_S512x128 x,
      fun x => slice_tile (F := F) (NRM x0 x1 x2 x3 x4 x5 x6) 9 (by norm_num) inb_S8192x128_S512x128_9_0_s_16_1 spos_16_1 slices_S512x2048_o0_1152_S512x128 x,
      fun x => slice_tile (F := F) (NRM x0 x1 x2 x3 x4 x5 x6) 8 (by norm_num) inb_S8192x128_S512x128_8_0_s_16_1 spos_16_1 slices_S512x2048_o0_1024_S512x128 x,
      fun x => slice_tile (F := F) (NRM x0 x1 x2 x3 x4 x5 x6) 7 (by norm_num) inb_S8192x128_S512x128_7_0_s_16_1 spos_16_1 slices_S512x2048_o0_896_S512x128 x,
      fun x => slice_tile (F := F) (NRM x0 x1 x2 x3 x4 x5 x6) 6 (by norm_num) inb_S8192x128_S512x128_6_0_s_16_1 spos_16_1 slices_S512x2048_o0_768_S512x128 x,
      fun x => slice_tile (F := F) (NRM x0 x1 x2 x3 x4 x5 x6) 5 (by norm_num) inb_S8192x128_S512x128_5_0_s_16_1 spos_16_1 slices_S512x2048_o0_640_S512x128 x,
      fun x => slice_tile (F := F) (NRM x0 x1 x2 x3 x4 x5 x6) 4 (by norm_num) inb_S8192x128_S512x128_4_0_s_16_1 spos_16_1 slices_S512x2048_o0_512_S512x128 x,
      fun x => slice_tile (F := F) (NRM x0 x1 x2 x3 x4 x5 x6) 3 (by norm_num) inb_S8192x128_S512x128_3_0_s_16_1 spos_16_1 slices_S512x2048_o0_384_S512x128 x,
      fun x => slice_tile (F := F) (NRM x0 x1 x2 x3 x4 x5 x6) 2 (by norm_num) inb_S8192x128_S512x128_2_0_s_16_1 spos_16_1 slices_S512x2048_o0_256_S512x128 x,
      fun x => slice_tile (F := F) (NRM x0 x1 x2 x3 x4 x5 x6) 1 (by norm_num) inb_S8192x128_S512x128_1_0_s_16_1 spos_16_1 slices_S512x2048_o0_128_S512x128 x,
      fun x => slice_tile (F := F) (NRM x0 x1 x2 x3 x4 x5 x6) 0 (by norm_num) inb_S8192x128_S512x128_0_0_s_16_1 spos_16_1 slices_S512x2048_o0_0_S512x128 x⟩
  · simp only [List.exists_mem_cons_iff]
    have h1 : (y 0).val % 16 < 16 := Nat.mod_lt _ (by norm_num)
    obtain ⟨k, hk⟩ : ∃ k, (y 0).val % 16 = k := ⟨_, rfl⟩
    rw [hk] at h1
    interval_cases k
    · exact Or.inr (Or.inr (Or.inr (Or.inr (Or.inr (Or.inr (Or.inr (Or.inr (Or.inr (Or.inr (Or.inr (Or.inr (Or.inr (Or.inr (Or.inr (Or.inl (row_mem 0 inb_S8192x128_S512x128_0_0_s_16_1 spos_16_1 y hk))))))))))))))))
    · exact Or.inr (Or.inr (Or.inr (Or.inr (Or.inr (Or.inr (Or.inr (Or.inr (Or.inr (Or.inr (Or.inr (Or.inr (Or.inr (Or.inr (Or.inl (row_mem 1 inb_S8192x128_S512x128_1_0_s_16_1 spos_16_1 y hk)))))))))))))))
    · exact Or.inr (Or.inr (Or.inr (Or.inr (Or.inr (Or.inr (Or.inr (Or.inr (Or.inr (Or.inr (Or.inr (Or.inr (Or.inr (Or.inl (row_mem 2 inb_S8192x128_S512x128_2_0_s_16_1 spos_16_1 y hk))))))))))))))
    · exact Or.inr (Or.inr (Or.inr (Or.inr (Or.inr (Or.inr (Or.inr (Or.inr (Or.inr (Or.inr (Or.inr (Or.inr (Or.inl (row_mem 3 inb_S8192x128_S512x128_3_0_s_16_1 spos_16_1 y hk)))))))))))))
    · exact Or.inr (Or.inr (Or.inr (Or.inr (Or.inr (Or.inr (Or.inr (Or.inr (Or.inr (Or.inr (Or.inr (Or.inl (row_mem 4 inb_S8192x128_S512x128_4_0_s_16_1 spos_16_1 y hk))))))))))))
    · exact Or.inr (Or.inr (Or.inr (Or.inr (Or.inr (Or.inr (Or.inr (Or.inr (Or.inr (Or.inr (Or.inl (row_mem 5 inb_S8192x128_S512x128_5_0_s_16_1 spos_16_1 y hk)))))))))))
    · exact Or.inr (Or.inr (Or.inr (Or.inr (Or.inr (Or.inr (Or.inr (Or.inr (Or.inr (Or.inl (row_mem 6 inb_S8192x128_S512x128_6_0_s_16_1 spos_16_1 y hk))))))))))
    · exact Or.inr (Or.inr (Or.inr (Or.inr (Or.inr (Or.inr (Or.inr (Or.inr (Or.inl (row_mem 7 inb_S8192x128_S512x128_7_0_s_16_1 spos_16_1 y hk)))))))))
    · exact Or.inr (Or.inr (Or.inr (Or.inr (Or.inr (Or.inr (Or.inr (Or.inl (row_mem 8 inb_S8192x128_S512x128_8_0_s_16_1 spos_16_1 y hk))))))))
    · exact Or.inr (Or.inr (Or.inr (Or.inr (Or.inr (Or.inr (Or.inl (row_mem 9 inb_S8192x128_S512x128_9_0_s_16_1 spos_16_1 y hk)))))))
    · exact Or.inr (Or.inr (Or.inr (Or.inr (Or.inr (Or.inl (row_mem 10 inb_S8192x128_S512x128_10_0_s_16_1 spos_16_1 y hk))))))
    · exact Or.inr (Or.inr (Or.inr (Or.inr (Or.inl (row_mem 11 inb_S8192x128_S512x128_11_0_s_16_1 spos_16_1 y hk)))))
    · exact Or.inr (Or.inr (Or.inr (Or.inl (row_mem 12 inb_S8192x128_S512x128_12_0_s_16_1 spos_16_1 y hk))))
    · exact Or.inr (Or.inr (Or.inl (row_mem 13 inb_S8192x128_S512x128_13_0_s_16_1 spos_16_1 y hk)))
    · exact Or.inr (Or.inl (row_mem 14 inb_S8192x128_S512x128_14_0_s_16_1 spos_16_1 y hk))
    · exact Or.inl (row_mem 15 inb_S8192x128_S512x128_15_0_s_16_1 spos_16_1 y hk)

theorem outB_11 (hZ : ¬(condZ i = 1#1)) (v v' : View sig .tc .vmem S512x128 .f32) (f : v.ty.Contents (Elt F)) (f' : v'.ty.Contents (Elt F)) :
    v.read (Elt F) (v.writes (Elt F) f (runB (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 hZ).2.2.1) = v'.read (Elt F) (v'.writes (Elt F) f' (runB (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 hZ).2.2.1) := by
  unfold runB
  dsimp only
  try delta runB.sl.H11_1
  refine (read_whole _ _ _ _ _).trans ?_
  symm
  refine (read_whole _ _ _ _ _).trans ?_
  rfl

theorem outB_12 (hZ : ¬(condZ i = 1#1)) (v v' : View sig .tc .vmem S8x128 .f32) (f : v.ty.Contents (Elt F)) (f' : v'.ty.Contents (Elt F)) :
    v.read (Elt F) (v.writes (Elt F) f (runB (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 hZ).2.2.2.1) = v'.read (Elt F) (v'.writes (Elt F) f' (runB (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 hZ).2.2.2.1) := by
  unfold runB
  dsimp only
  try delta runB.sl.H12_1
  refine (read_whole _ _ _ _ _).trans ?_
  symm
  refine (read_whole _ _ _ _ _).trans ?_
  rfl

theorem outB_S (hZ : ¬(condZ i = 1#1)) (v v' : View sig .tc .vmem S8x128 .f32) (f : v.ty.Contents (Elt F)) (f' : v'.ty.Contents (Elt F)) :
    v.read (Elt F) (v.writes (Elt F) f (runB (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 hZ).2.2.2.2.1) = v'.read (Elt F) (v'.writes (Elt F) f' (runB (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 hZ).2.2.2.2.1) := by
  unfold runB
  dsimp only
  delta runB.sl.HS_1
  refine (read_whole _ _ _ _ _).trans ?_
  symm
  refine (read_whole _ _ _ _ _).trans ?_
  rfl

end Cert.OutprojIdeal.Run

end
-- ==== Proof.OutprojIdealFrame.lean ====
/-
  The frame of the output projection's kernel: the proof data say what the body leaves at each point, the carried counts run
  through the points, and every run ends with the arrays as the data say.
-/
module

public import proofs.«01_k».proof.Proof.OutprojIdealRun
public import proofs.«01_k».proof.Proof.Gen.OutprojIdeal.Frame
public import Idealize.ShloMosaic.Lib.Pipeline.TableIdle
public import Idealize.ShloMosaic.Lib.Pipeline.Quiescent
public import Idealize.ShloMosaic.Lib.Claim

@[expose] public section

set_option maxRecDepth 16384
set_option Elab.async false

noncomputable section

namespace Cert.OutprojIdeal.Run

open Cert.OutprojIdeal Cert.OutprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first point only. -/
theorem hcond : ∀ t : Fin cfg0.N, condZ (grid0.coords t) = 1#1 ↔ t.val = 0 :=
  (fun t => by
    have ht : t.val < 64 := Nat.lt_of_lt_of_eq t.isLt N_0
    have e0 : (grid0.coords t 0).val = t.val / 1 % 64 := Pipeline.Grid.coords_val t 0 (by decide) rfl
    have e1 : (grid0.coords t 0).val = t.val := by rw [e0]; omega
    simp only [condZ, e1]
    word_cmp
   : ∀ t : Fin grid0.N, condZ (grid0.coords t) = 1#1 ↔ t.val = 0)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8192x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x128 .f32 := win0_12.stage (cfg0.slots t 12)
abbrev hs0_12 (t : Fin cfg0.N) : (ms0_12 t).IsWhole := hstage0_12 ((cfg0.slots t 12).cast nbuf0_12)

/-- What the launch hands the region, the carried counts owned at some contents. -/
theorem PhiA0_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

/-- The run at the first point and at a later one, on the point's memrefs and blocks. -/
abbrev rnA (c : Dev nD) (t : Fin cfg0.N) (h : condZ (grid0.coords t) = 1#1) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) sc0 (Memref.isWhole_whole _) (iblk m c 0 t) (iblk m c 1 t) (iblk m c 2 t) (iblk m c 3 t) (iblk m c 4 t) (iblk m c 5 t) (iblk m c 6 t) (iblk m c 7 t) (iblk m c 8 t) h
abbrev rnB (c : Dev nD) (t : Fin cfg0.N) (xs0 : S8x128.Idx → Elt F .f32) (h : ¬(condZ (grid0.coords t) = 1#1)) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) sc0 (Memref.isWhole_whole _) (iblk m c 0 t) (iblk m c 1 t) (iblk m c 2 t) (iblk m c 3 t) (iblk m c 4 t) (iblk m c 5 t) (iblk m c 6 t) (iblk m c 7 t) (iblk m c 8 t) xs0 h

/-- What pieces leave where they cover: read back over anything. -/
abbrev leaves {sp : Space} {s : Shape} {e : EltTy} (M : Memref sig .tc sp s e) (L : List (View.Piece (Elt F) s e)) : s.Idx → Elt F e :=
  M.view.read (Elt F) (M.view.writes (Elt F) M.view.junk L)

/-- The router's two blocks and the carried counts, left by the first point and by a later one. -/
def stA (c : Dev nD) (t : Fin cfg0.N) (h : condZ (grid0.coords t) = 1#1) : (S512x128.Idx → Elt F .f32) × (S8x128.Idx → Elt F .f32) × (S8x128.Idx → Elt F .f32) :=
  (leaves (ms0_11 t) (rnA m c t h).2.2.1, leaves (ms0_12 t) (rnA m c t h).2.2.2.1, leaves sc0 (rnA m c t h).2.2.2.2.1)

def stB (c : Dev nD) (t : Fin cfg0.N) (xs0 : S8x128.Idx → Elt F .f32) (h : ¬(condZ (grid0.coords t) = 1#1)) : (S512x128.Idx → Elt F .f32) × (S8x128.Idx → Elt F .f32) × (S8x128.Idx → Elt F .f32) :=
  (leaves (ms0_11 t) (rnB m c t xs0 h).2.2.1, leaves (ms0_12 t) (rnB m c t xs0 h).2.2.2.1, leaves sc0 (rnB m c t xs0 h).2.2.2.2.1)

/-- The same after each point, in turn. -/
def st (c : Dev nD) : (n : ℕ) → n < cfg0.N → (S512x128.Idx → Elt F .f32) × (S8x128.Idx → Elt F .f32) × (S8x128.Idx → Elt F .f32)
  | 0, hn => stA m c ⟨0, hn⟩ ((hcond ⟨0, hn⟩).2 rfl)
  | n + 1, hn => stB m c ⟨n + 1, hn⟩ (st c n (Nat.lt_of_succ_lt hn)).2.2 (fun h => absurd ((hcond ⟨n + 1, hn⟩).1 h) (Nat.succ_ne_zero n))

theorem st_A (c : Dev nD) (t : Fin cfg0.N) (h : t.val = 0) : st m c t.val t.isLt = stA m c t ((hcond t).2 h) := by
  obtain ⟨n, hn⟩ := t
  cases n with
  | zero => exact rfl
  | succ n => exact absurd h (Nat.succ_ne_zero n)

theorem st_B (c : Dev nD) (t : Fin cfg0.N) (h : t.val ≠ 0) : st m c t.val t.isLt
    = stB m c t (st m c (t.val - 1) (Nat.lt_of_le_of_lt (Nat.sub_le _ _) t.isLt)).2.2 (fun h' => h ((hcond t).1 h')) := by
  obtain ⟨n, hn⟩ := t
  cases n with
  | zero => exact absurd rfl h
  | succ n => exact rfl

/-- The invariant: before the first point the counts at anything, afterwards at what the point before left. -/
def PhiS (c : Dev nD) : (n : ℕ) → n ≤ cfg0.N → sProp 𝕄
  | 0, _ => Pipeline.ΦA spec0 c
  | n + 1, hn => iprop(iprop(owns (c : Thread nD τ) sc0 fullShare ((st m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare ((st m c n hn).2.2)) ∗ (∃ r, prngReg c r)) := rfl

theorem PhiS_pos (c : Dev nD) (n : ℕ) (h : n ≤ cfg0.N) (hz : n ≠ 0) :
    PhiS m c n h = iprop(iprop(owns (c : Thread nD τ) sc0 fullShare ((st m c (n - 1) (by omega)).2.2)) ∗ (∃ r, prngReg c r)) := by
  cases n with
  | zero => exact absurd rfl hz
  | succ n => rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => X2 (iblk m c 0 t) (iblk m c 1 t) (iblk m c 2 t) (iblk m c 3 t) (iblk m c 4 t) (iblk m c 5 t)
    | ⟨10, _⟩ => tileOf (NRM (iblk m c 0 t) (iblk m c 1 t) (iblk m c 2 t) (iblk m c 3 t) (iblk m c 4 t) (iblk m c 5 t) (iblk m c 6 t))
    | ⟨11, _⟩ => (st m c t.val t.isLt).1
    | ⟨12, _⟩ => (st m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = X2 (iblk m c 0 t) (iblk m c 1 t) (iblk m c 2 t) (iblk m c 3 t) (iblk m c 4 t) (iblk m c 5 t) := by dsimp only [dats]
theorem after0_10 (c : Dev nD) (t : Fin cfg0.N) : (dats m 0 c).after 10 t = tileOf (NRM (iblk m c 0 t) (iblk m c 1 t) (iblk m c 2 t) (iblk m c 3 t) (iblk m c 4 t) (iblk m c 5 t) (iblk m c 6 t)) := by dsimp only [dats]
theorem after0_11 (c : Dev nD) (t : Fin cfg0.N) : (dats m 0 c).after 11 t = (st m c t.val t.isLt).1 := by dsimp only [dats]
theorem after0_12 (c : Dev nD) (t : Fin cfg0.N) : (dats m 0 c).after 12 t = (st m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  by_cases hz : t.val = 0
  · rw [PhiS_castSucc m c t, PhiS_zero m c _ _ hz, PhiA0_eq]
    rw [st_A m c t hz]
    unfold stA
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (rnA m c t ((hcond t).2 hz)).2.2.2.2.2
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, H8, ⟨%e9, H9⟩, ⟨%e10, H10⟩, ⟨%e11, H11⟩, ⟨%e12, H12⟩, ⟨%es, HS⟩⟩
    isplitl [HS Hg]
    · isplitl [HS]
      · unfold owns; iexists _; isplitr
        swap; · iexact HS
        ipureintro; exact outA_S _ _ _ _ _ _ _ _ _ _ _ _ _ _ _ _ _ _ _ _ _ _ _ _ _ _ _ _ _ _ _ _ _ _ _ _ _ _ _ _ _ _ _ _
      iexact Hg
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]
    · unfold owns; iexists _; isplitr
      swap; · iexact H9
      ipureintro; exact outA_9 _ _ _ _ _ _ _ _ _ _ _ _ _ _ _ _ _ _ _ _ _ _ _ _ _ _ _ _ _ _ _ _ _ _ _ _ _ _ _ _ _ _
    isplitl [H10]
    · unfold owns; iexists _; isplitr
      swap; · iexact H10
      ipureintro; exact outA_10 _ _ _ _ _ _ _ _ _ _ _ _ _ _ _ _ _ _ _ _ _ _ _ _ _ _ _ _ _ _ _ _ _ _ _ _ _ _ _ _ _ _
    isplitl [H11]
    · unfold owns; iexists _; isplitr
      swap; · iexact H11
      ipureintro; exact outA_11 _ _ _ _ _ _ _ _ _ _ _ _ _ _ _ _ _ _ _ _ _ _ _ _ _ _ _ _ _ _ _ _ _ _ _ _ _ _ _ _ _ _ _ _
    unfold owns; iexists _; isplitr
    swap; · iexact H12
    ipureintro; exact outA_12 _ _ _ _ _ _ _ _ _ _ _ _ _ _ _ _ _ _ _ _ _ _ _ _ _ _ _ _ _ _ _ _ _ _ _ _ _ _ _ _ _ _ _ _
  · rw [PhiS_castSucc m c t, PhiS_pos m c _ _ hz]
    rw [st_B m c t hz]
    unfold stB
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (rnB m c t (st m c (t.val - 1) (Nat.lt_of_le_of_lt (Nat.sub_le _ _) t.isLt)).2.2 (fun h' => hz ((hcond t).1 h'))).2.2.2.2.2
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, H8, ⟨%e9, H9⟩, ⟨%e10, H10⟩, ⟨%e11, H11⟩, ⟨%e12, H12⟩, ⟨%es, HS⟩⟩
    isplitl [HS Hg]
    · isplitl [HS]
      · unfold owns; iexists _; isplitr
        swap; · iexact HS
        ipureintro; exact outB_S _ _ _ _ _ _ _ _ _ _ _ _ _ _ _ _ _ _ _ _ _ _ _ _ _ _ _ _ _ _ _ _ _ _ _ _ _ _ _ _ _ _ _ _ _
      iexact Hg
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]
    · unfold owns; iexists _; isplitr
      swap; · iexact H9
      ipureintro; exact outB_9 _ _ _ _ _ _ _ _ _ _ _ _ _ _ _ _ _ _ _ _ _ _ _ _ _ _ _ _ _ _ _ _ _ _ _ _ _ _ _ _ _ _ _
    isplitl [H10]
    · unfold owns; iexists _; isplitr
      swap; · iexact H10
      ipureintro; exact outB_10 _ _ _ _ _ _ _ _ _ _ _ _ _ _ _ _ _ _ _ _ _ _ _ _ _ _ _ _ _ _ _ _ _ _ _ _ _ _ _ _ _ _ _
    isplitl [H11]
    · unfold owns; iexists _; isplitr
      swap; · iexact H11
      ipureintro; exact outB_11 _ _ _ _ _ _ _ _ _ _ _ _ _ _ _ _ _ _ _ _ _ _ _ _ _ _ _ _ _ _ _ _ _ _ _ _ _ _ _ _ _ _ _ _ _
    unfold owns; iexists _; isplitr
    swap; · iexact H12
    ipureintro; exact outB_12 _ _ _ _ _ _ _ _ _ _ _ _ _ _ _ _ _ _ _ _ _ _ _ _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every run ends with the arrays as the data say and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the arguments end unchanged and the counters at zero. -/
theorem frame' : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (unchanged m ρ) ((θ_run defs _ _).mono (fun _ h => h.2) (run_main_quiescent m ρ))

end Cert.OutprojIdeal.Run

end
-- ==== Proof.OutprojValue.lean ====
/-
  The value of the output projection: at every token row the pipelined kernel leaves the input plus the two normalised halves
  times the two halves of the weight, which is the reference's one product with the halves side by side; and the norm of that
  row, its 16 groups of 128 columns being 16 rows of the second result.
-/
module

public import proofs.«01_k».proof.Defs
public import proofs.«01_k».proof.Proof.OutprojIdealFrame
public import proofs.«01_k».proof.Proof.Gen.OutprojRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutprojIdeal.RefValue

open Cert.OutprojIdeal Cert.OutprojIdeal.Gen Cert.OutprojIdeal.Run

variable (m : (ℓ : Loc nD τ sig) → Buf (Elt Ideal) ℓ)

/-- The windows' block indices at a point, in closed form. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_9.index t = ![t.val, 0] ∧ win0_10.index t = ![t.val, 0] :=
  (by decide +kernel : ∀ t : Fin grid0.N, _)

/-- A row of 1024 scaled to root mean square one, times a gain. -/
def nrm (v : Fin 1024 → Ideal .f32) (g : Fin 1024 → Ideal .f32) (x : Fin 1024) : Ideal .f32 :=
  v x * Ideal.rsqrt (Ideal.div (∑ z : Fin 1024, v z * v z) (Ideal.ofBits FTy.f32 0x44800000#32) + Ideal.ofBits FTy.f32 0x358637BD#32) * g x

/-- The same of a row of 2048. -/
def nrm2 (v : Fin 2048 → Ideal .f32) (g : Fin 2048 → Ideal .f32) (x : Fin 2048) : Ideal .f32 :=
  v x * Ideal.rsqrt (Ideal.div (∑ z : Fin 2048, v z * v z) (Ideal.ofBits FTy.f32 0x45000000#32) + Ideal.ofBits FTy.f32 0x358637BD#32) * g x

/-- The first half's rows, read off the argument. -/
theorem rd0 (c : Dev nD) (t : Fin cfg0.N) (a : Fin 512) (x : Fin 1024) (r : Fin 32768) (h : r.val = t.val * 512 + a.val) :
    (iblk m c 0 t : Vec Ideal S512x1024 .f32) (ix2 a x) = m ((c : Thread nD τ).loc main_arg0) (ix2 r x) := by
  have hV : (V m c main_arg0 : FVec Ideal S32768x1024 .f32) = m ((c : Thread nD τ).loc main_arg0) := V_main_arg0 m c
  show (V m c main_arg0 : FVec Ideal S32768x1024 .f32) (((cfg0.win 0).blk t).view.emb (ix2 a x)) = _
  have e : ((cfg0.win 0).blk t).view.emb (ix2 a x) = (ix2 r x : S32768x1024.Idx) := by
    blk_ext [idx t]
  rw [hV, e]

/-- The second half's rows, read off the argument. -/
theorem rd1 (c : Dev nD) (t : Fin cfg0.N) (a : Fin 512) (x : Fin 1024) (r : Fin 32768) (h : r.val = t.val * 512 + a.val) :
    (iblk m c 1 t : Vec Ideal S512x1024 .f32) (ix2 a x) = m ((c : Thread nD τ).loc main_arg1) (ix2 r x) := by
  have hV : (V m c main_arg1 : FVec Ideal S32768x1024 .f32) = m ((c : Thread nD τ).loc main_arg1) := V_main_arg1 m c
  show (V m c main_arg1 : FVec Ideal S32768x1024 .f32) (((cfg0.win 1).blk t).view.emb (ix2 a x)) = _
  have e : ((cfg0.win 1).blk t).view.emb (ix2 a x) = (ix2 r x : S32768x1024.Idx) := by
    blk_ext [idx t]
  rw [hV, e]

/-- The input's rows, read off the argument. -/
theorem rd2 (c : Dev nD) (t : Fin cfg0.N) (a : Fin 512) (x : Fin 2048) (r : Fin 32768) (h : r.val = t.val * 512 + a.val) :
    (iblk m c 2 t : Vec Ideal S512x2048 .f32) (ix2 a x) = m ((c : Thread nD τ).loc main_arg2) (ix2 r x) := by
  have hV : (V m c main_arg2 : FVec Ideal S32768x2048 .f32) = m ((c : Thread nD τ).loc main_arg2) := V_main_arg2 m c
  show (V m c main_arg2 : FVec Ideal S32768x2048 .f32) (((cfg0.win 2).blk t).view.emb (ix2 a x)) = _
  have e : ((cfg0.win 2).blk t).view.emb (ix2 a x) = (ix2 r x : S32768x2048.Idx) := by
    blk_ext [idx t]
  rw [hV, e]

/-- The first gain. -/
theorem rd3 (c : Dev nD) (t : Fin cfg0.N) (x : Fin 1024) :
    (iblk m c 3 t : Vec Ideal S1x1024 .f32) (ix2 0 x) = m ((c : Thread nD τ).loc main_arg3) (ix1 x) := by
  have hV : (V m c main_v8 : FVec Ideal S1x1024 .f32) = broadcastInDim S1x1024 ![1] Gen.bcast_S1024_S1x1024_1 (m ((c : Thread nD τ).loc main_arg3)) := by
    entry_read
    rfl
  show (V m c main_v8 : FVec Ideal S1x1024 .f32) (((cfg0.win 3).blk t).view.emb (ix2 0 x)) = _
  have e : ((cfg0.win 3).blk t).view.emb (ix2 0 x) = (ix2 0 x : S1x1024.Idx) := by
    blk_ext [idx t]
  rw [hV, e]
  pointwise

/-- The second gain. -/
theorem rd4 (c : Dev nD) (t : Fin cfg0.N) (x : Fin 1024) :
    (iblk m c 4 t : Vec Ideal S1x1024 .f32) (ix2 0 x) = m ((c : Thread nD τ).loc main_arg4) (ix1 x) := by
  have hV : (V m c main_v9 : FVec Ideal S1x1024 .f32) = broadcastInDim S1x1024 ![1] Gen.bcast_S1024_S1x1024_1 (m ((c : Thread nD τ).loc main_arg4)) := by
    entry_read
    rfl
  show (V m c main_v9 : FVec Ideal S1x1024 .f32) (((cfg0.win 4).blk t).view.emb (ix2 0 x)) = _
  have e : ((cfg0.win 4).blk t).view.emb (ix2 0 x) = (ix2 0 x : S1x1024.Idx) := by
    blk_ext [idx t]
  rw [hV, e]
  pointwise

/-- The last norm's gain. -/
theorem rd6 (c : Dev nD) (t : Fin cfg0.N) (x : Fin 2048) :
    (iblk m c 6 t : Vec Ideal S1x2048 .f32) (ix2 0 x) = m ((c : Thread nD τ).loc main_arg6) (ix1 x) := by
  have hV : (V m c main_v11 : FVec Ideal S1x2048 .f32) = broadcastInDim S1x2048 ![1] Gen.bcast_S2048_S1x2048_1 (m ((c : Thread nD τ).loc main_arg6)) := by
    entry_read
    rfl
  show (V m c main_v11 : FVec Ideal S1x2048 .f32) (((cfg0.win 6).blk t).view.emb (ix2 0 x)) = _
  have e : ((cfg0.win 6).blk t).view.emb (ix2 0 x) = (ix2 0 x : S1x2048.Idx) := by
    blk_ext [idx t]
  rw [hV, e]
  pointwise

/-- The weight. -/
theorem rd5 (c : Dev nD) (t : Fin cfg0.N) (x q : Fin 2048) :
    (iblk m c 5 t : Vec Ideal S2048x2048 .bf16) (ix2 x q) = m ((c : Thread nD τ).loc main_arg5) (ix2 x q) := by
  have hV : (V m c main_v10 : FVec Ideal S2048x2048 .bf16) = (show FVec Ideal S2048x2048 .bf16 from truncf .bf16 (show FVec Ideal S2048x2048 .f32 from m ((c : Thread nD τ).loc main_arg5)) Gen.bitsLt_bf16_f32) := by
    entry_read
    rfl
  show (V m c main_v10 : FVec Ideal S2048x2048 .bf16) (((cfg0.win 5).blk t).view.emb (ix2 x q)) = _
  have e : ((cfg0.win 5).blk t).view.emb (ix2 x q) = (ix2 x q : S2048x2048.Idx) := by
    blk_ext [idx t]
  rw [hV, e]
  pointwise

/-- The two windows of the weight the kernel loads: the upper and the lower half of its rows. -/
theorem win_lo (W : S2048x2048.Idx → Ideal .bf16) (x : Fin 1024) (q : Fin 2048) :
    (VecWindow.window W ![0, 0] S1024x2048.size inb_S2048x2048_S1024x2048_0_0 : Vec Ideal S1024x2048 .bf16) (ix2 x q) = W (ix2 ⟨x.val, by omega⟩ q) := by
  show W _ = W _
  congr 1
  funext k
  refine Fin.ext ?_
  match k with
  | ⟨0, _⟩ => show 0 + 1 * x.val = x.val; omega
  | ⟨1, _⟩ => show 0 + 1 * q.val = q.val; omega

theorem win_hi (W : S2048x2048.Idx → Ideal .bf16) (x : Fin 1024) (q : Fin 2048) :
    (VecWindow.window W ![1024, 0] S1024x2048.size inb_S2048x2048_S1024x2048_1024_0 : Vec Ideal S1024x2048 .bf16) (ix2 x q) = W (ix2 ⟨1024 + x.val, by omega⟩ q) := by
  show W _ = W _
  congr 1
  funext k
  refine Fin.ext ?_
  match k with
  | ⟨0, _⟩ => show 1024 + 1 * x.val = 1024 + x.val; omega
  | ⟨1, _⟩ => show 0 + 1 * q.val = q.val; omega

/-- The kernel's sum at an index: the input plus the two products. -/
theorem X2_at (x0 x1 : FVec Ideal S512x1024 .f32) (x2 : FVec Ideal S512x2048 .f32) (x3 x4 : FVec Ideal S1x1024 .f32) (x5 : FVec Ideal S2048x2048 .bf16)
    (a : Fin 512) (q : Fin 2048) :
    X2 x0 x1 x2 x3 x4 x5 (ix2 a q) = x2 (ix2 a q)
      + ((∑ x : Fin 1024, nrm (fun z => x0 (ix2 a z)) (fun z => x3 (ix2 0 z)) x * x5 (ix2 (⟨x.val, by omega⟩ : Fin 2048) q))
        + ∑ x : Fin 1024, nrm (fun z => x1 (ix2 a z)) (fun z => x4 (ix2 0 z)) x * x5 (ix2 (⟨1024 + x.val, by omega⟩ : Fin 2048) q)) := by
  simp only [← win_lo x5, ← win_hi x5]
  unfold X2
  generalize (VecWindow.window x5 ![0, 0] S1024x2048.size inb_S2048x2048_S1024x2048_0_0 : Vec Ideal S1024x2048 .bf16) = lo
  generalize (VecWindow.window x5 ![1024, 0] S1024x2048.size inb_S2048x2048_S1024x2048_1024_0 : Vec Ideal S1024x2048 .bf16) = hi
  simp only [nrm]
  pointwise [k0_pay5, k0_pay4, k0_pay3]

/-- The kernel's norm of the sum at an index. -/
theorem NRM_at (x0 x1 : FVec Ideal S512x1024 .f32) (x2 : FVec Ideal S512x2048 .f32) (x3 x4 : FVec Ideal S1x1024 .f32) (x5 : FVec Ideal S2048x2048 .bf16)
    (x6 : FVec Ideal S1x2048 .f32) (a : Fin 512) (q : Fin 2048) :
    NRM x0 x1 x2 x3 x4 x5 x6 (ix2 a q) = nrm2 (fun z => X2 x0 x1 x2 x3 x4 x5 (ix2 a z)) (fun z => x6 (ix2 0 z)) q := by
  unfold NRM X2
  simp only [nrm2]
  pointwise [k0_pay6]

section Ref
open Cert.OutprojRefIdeal.Gen

/-- The reference's norm of each row of 1024. -/
abbrev NREF (X : FVec Ideal Cert.OutprojRefIdeal.S32768x1024 .f32) (g : FVec Ideal Cert.OutprojRefIdeal.S1024 .f32) : FVec Ideal Cert.OutprojRefIdeal.S32768x1024 .f32 :=
  mulf (mulf X (broadcastInDim Cert.OutprojRefIdeal.S32768x1024 ![0, 1] bcast_S32768x1_S32768x1024_0_1 (Host.rsqrt (addf (Host.divf (broadcastInDim Cert.OutprojRefIdeal.S32768x1 ![0] bcast_S32768_S32768x1_0 (Host.reduceAdd (mulf X X) (constant Cert.OutprojRefIdeal.S_ .f32 0x00000000#32) reducesTo_S32768x1024_S32768_d1 h_S_)) (broadcastInDim Cert.OutprojRefIdeal.S32768x1 ![] bcast_S_S32768x1 (constant Cert.OutprojRefIdeal.S_ .f32 0x44800000#32))) (broadcastInDim Cert.OutprojRefIdeal.S32768x1 ![] bcast_S_S32768x1 (constant Cert.OutprojRefIdeal.S_ .f32 0x358637BD#32)))))) (broadcastInDim Cert.OutprojRefIdeal.S32768x1024 ![0, 1] bcast_S1x1024_S32768x1024_0_1 (broadcastInDim Cert.OutprojRefIdeal.S1x1024 ![1] Cert.OutprojRefIdeal.Gen.bcast_S1024_S1x1024_1 g))

/-- The reference's norm of each row of 2048. -/
abbrev NREF2 (X : FVec Ideal Cert.OutprojRefIdeal.S32768x2048 .f32) (g : FVec Ideal Cert.OutprojRefIdeal.S2048 .f32) : FVec Ideal Cert.OutprojRefIdeal.S32768x2048 .f32 :=
  mulf (mulf X (broadcastInDim Cert.OutprojRefIdeal.S32768x2048 ![0, 1] bcast_S32768x1_S32768x2048_0_1 (Host.rsqrt (addf (Host.divf (broadcastInDim Cert.OutprojRefIdeal.S32768x1 ![0] bcast_S32768_S32768x1_0 (Host.reduceAdd (mulf X X) (constant Cert.OutprojRefIdeal.S_ .f32 0x00000000#32) reducesTo_S32768x2048_S32768_d1 h_S_)) (broadcastInDim Cert.OutprojRefIdeal.S32768x1 ![] bcast_S_S32768x1 (constant Cert.OutprojRefIdeal.S_ .f32 0x45000000#32))) (broadcastInDim Cert.OutprojRefIdeal.S32768x1 ![] bcast_S_S32768x1 (constant Cert.OutprojRefIdeal.S_ .f32 0x358637BD#32)))))) (broadcastInDim Cert.OutprojRefIdeal.S32768x2048 ![0, 1] bcast_S1x2048_S32768x2048_0_1 (broadcastInDim Cert.OutprojRefIdeal.S1x2048 ![1] Cert.OutprojRefIdeal.Gen.bcast_S2048_S1x2048_1 g))

/-- The reference's product of the halves side by side, added to the input. -/
abbrev PREF (P Q : FVec Ideal Cert.OutprojRefIdeal.S32768x1024 .f32) (X : FVec Ideal Cert.OutprojRefIdeal.S32768x2048 .f32) (W : FVec Ideal Cert.OutprojRefIdeal.S2048x2048 .f32) : FVec Ideal Cert.OutprojRefIdeal.S32768x2048 .f32 :=
  addf X (Host.dotGeneral Cert.OutprojRefIdeal.dot_S32768x2048_S2048x2048_S32768x2048_1_0_0_1_n_n none (concatenate Cert.OutprojRefIdeal.S32768x2048 1 [⟨Cert.OutprojRefIdeal.S32768x1024, P⟩, ⟨Cert.OutprojRefIdeal.S32768x1024, Q⟩] concatenates_S32768x1024_S32768x1024_S32768x2048_d1) W)

/-- The reference's first result over the arguments. -/
abbrev REF (A R : FVec Ideal Cert.OutprojRefIdeal.S32768x1024 .f32) (X : FVec Ideal Cert.OutprojRefIdeal.S32768x2048 .f32)
    (ga gl : FVec Ideal Cert.OutprojRefIdeal.S1024 .f32) (W : FVec Ideal Cert.OutprojRefIdeal.S2048x2048 .f32) : FVec Ideal Cert.OutprojRefIdeal.S32768x2048 .f32 :=
  PREF (NREF A ga) (NREF R gl) X W

/-- The reference's second result over its first. -/
abbrev REFH (X : FVec Ideal Cert.OutprojRefIdeal.S32768x2048 .f32) (g : FVec Ideal Cert.OutprojRefIdeal.S2048 .f32) : FVec Ideal Cert.OutprojRefIdeal.S524288x128 .f32 :=
  shapeCast _ (NREF2 X g) shapeCasts_S32768x2048_S524288x128

theorem NREF_at (X g) (r : Fin 32768) (x : Fin 1024) : NREF X g (ix2 r x) = nrm (fun z => X (ix2 r z)) (fun z => g (ix1 z)) x := by
  simp only [nrm]
  pointwise [NREF]

theorem NREF2_at (X g) (r : Fin 32768) (x : Fin 2048) : NREF2 X g (ix2 r x) = nrm2 (fun z => X (ix2 r z)) (fun z => g (ix1 z)) x := by
  simp only [nrm2]
  pointwise [NREF2]

theorem split_sum (f : Fin 2048 → EReal) : ∑ x : Fin 2048, f x = (∑ x : Fin 1024, f ⟨x.val, by omega⟩) + ∑ x : Fin 1024, f ⟨1024 + x.val, by omega⟩ :=
  Fin.sum_univ_add (a := 1024) (b := 1024) f

theorem cat_lo (P Q : FVec Ideal Cert.OutprojRefIdeal.S32768x1024 .f32) (r : Fin 32768) (x : Fin 1024) :
    concatenate Cert.OutprojRefIdeal.S32768x2048 1 [⟨Cert.OutprojRefIdeal.S32768x1024, P⟩, ⟨Cert.OutprojRefIdeal.S32768x1024, Q⟩] concatenates_S32768x1024_S32768x1024_S32768x2048_d1 (ix2 r (⟨x.val, by omega⟩ : Fin 2048)) = P (ix2 r x) := by
  pointwise

theorem cat_hi (P Q : FVec Ideal Cert.OutprojRefIdeal.S32768x1024 .f32) (r : Fin 32768) (x : Fin 1024) :
    concatenate Cert.OutprojRefIdeal.S32768x2048 1 [⟨Cert.OutprojRefIdeal.S32768x1024, P⟩, ⟨Cert.OutprojRefIdeal.S32768x1024, Q⟩] concatenates_S32768x1024_S32768x1024_S32768x2048_d1 (ix2 r (⟨1024 + x.val, by omega⟩ : Fin 2048)) = Q (ix2 r x) := by
  pointwise

theorem PREF_at (P Q X W) (r : Fin 32768) (q : Fin 2048) :
    PREF P Q X W (ix2 r q) = X (ix2 r q) + ((∑ x : Fin 1024, P (ix2 r x) * W (ix2 (⟨x.val, by omega⟩ : Fin 2048) q)) + ∑ x : Fin 1024, Q (ix2 r x) * W (ix2 (⟨1024 + x.val, by omega⟩ : Fin 2048) q)) := by
  simp only [← cat_lo P Q, ← cat_hi P Q]
  unfold PREF
  generalize concatenate Cert.OutprojRefIdeal.S32768x2048 1 [⟨Cert.OutprojRefIdeal.S32768x1024, P⟩, ⟨Cert.OutprojRefIdeal.S32768x1024, Q⟩] concatenates_S32768x1024_S32768x1024_S32768x2048_d1 = C
  rw [← split_sum (fun x => C (ix2 r x) * W (ix2 x q))]
  pointwise

/-- A token's row as 16 rows of 128. -/
theorem cast_at (Y : FVec Ideal Cert.OutprojRefIdeal.S32768x2048 .f32) (j : Fin 524288) (l : Fin 128) (r : Fin 32768) (q : Fin 2048) (hr : r.val = j.val / 16) (hq : q.val = 128 * (j.val % 16) + l.val) :
    shapeCast Cert.OutprojRefIdeal.S524288x128 Y shapeCasts_S32768x2048_S524288x128 (ix2 j l) = Y (ix2 r q) := by
  pointwise
  exact congrArg Y (congrArg₂ ix2 (Fin.ext hr.symm) (Fin.ext (by show j.val % 16 * 128 + l.val = q.val; omega)))

end Ref

/-- The arguments' arrays. -/
abbrev A0 (c : Dev nD) : FVec Ideal S32768x1024 .f32 := m ((c : Thread nD τ).loc main_arg0)
abbrev A1 (c : Dev nD) : FVec Ideal S32768x1024 .f32 := m ((c : Thread nD τ).loc main_arg1)
abbrev A2 (c : Dev nD) : FVec Ideal S32768x2048 .f32 := m ((c : Thread nD τ).loc main_arg2)
abbrev A3 (c : Dev nD) : FVec Ideal S1024 .f32 := m ((c : Thread nD τ).loc main_arg3)
abbrev A4 (c : Dev nD) : FVec Ideal S1024 .f32 := m ((c : Thread nD τ).loc main_arg4)
abbrev A5 (c : Dev nD) : FVec Ideal S2048x2048 .f32 := m ((c : Thread nD τ).loc main_arg5)
abbrev A6 (c : Dev nD) : FVec Ideal S2048 .f32 := m ((c : Thread nD τ).loc main_arg6)

/-- A point's sum at an index of its block is the reference's at the array's index. -/
theorem point2 (c : Dev nD) (t : Fin cfg0.N) (a : Fin 512) (q : Fin 2048) (r : Fin 32768) (h : r.val = t.val * 512 + a.val) :
    X2 (F := Ideal) (iblk m c 0 t) (iblk m c 1 t) (iblk m c 2 t) (iblk m c 3 t) (iblk m c 4 t) (iblk m c 5 t) (ix2 a q)
      = REF (A0 m c) (A1 m c) (A2 m c) (A3 m c) (A4 m c) (A5 m c) (ix2 r q) := by
  refine (X2_at _ _ _ _ _ _ a q).trans ?_
  refine Eq.trans ?_ (PREF_at _ _ _ _ r q).symm
  simp only [rd0 m c t a _ r h, rd1 m c t a _ r h, rd2 m c t a _ r h, rd3 m c t, rd4 m c t, rd5 m c t, NREF_at]

/-- The same of the norm of the sum. -/
theorem pointN (c : Dev nD) (t : Fin cfg0.N) (a : Fin 512) (q : Fin 2048) (r : Fin 32768) (h : r.val = t.val * 512 + a.val) :
    NRM (F := Ideal) (iblk m c 0 t) (iblk m c 1 t) (iblk m c 2 t) (iblk m c 3 t) (iblk m c 4 t) (iblk m c 5 t) (iblk m c 6 t) (ix2 a q)
      = NREF2 (REF (A0 m c) (A1 m c) (A2 m c) (A3 m c) (A4 m c) (A5 m c)) (A6 m c) (ix2 r q) := by
  refine (NRM_at _ _ _ _ _ _ _ a q).trans ?_
  refine Eq.trans ?_ (NREF2_at _ _ r q).symm
  simp only [point2 m c t a _ r h, rd6 m c t]

theorem point9 (c : Dev nD) (t : Fin cfg0.N) (y : S512x2048.Idx) :
    X2 (F := Ideal) (iblk m c 0 t) (iblk m c 1 t) (iblk m c 2 t) (iblk m c 3 t) (iblk m c 4 t) (iblk m c 5 t) y
      = REF (A0 m c) (A1 m c) (A2 m c) (A3 m c) (A4 m c) (A5 m c) (((cfg0.win 9).blk t).view.emb y) := by
  have hN : t.val < 64 := lt_of_lt_of_eq t.isLt (show cfg0.N = 64 from N_0)
  obtain ⟨a, b, rfl⟩ : ∃ (a : Fin 512) (b : Fin 2048), y = ix2 a b := ⟨y 0, y 1, eq_ix2 y⟩
  have e : ((cfg0.win 9).blk t).view.emb (ix2 a b) = (ix2 ⟨t.val * 512 + a.val, by omega⟩ b : S32768x2048.Idx) := by
    blk_ext [idx t]
  rw [e]
  exact point2 m c t a b _ rfl

theorem point10 (c : Dev nD) (t : Fin cfg0.N) (y : S8192x128.Idx) :
    tileOf (F := Ideal) (NRM (F := Ideal) (iblk m c 0 t) (iblk m c 1 t) (iblk m c 2 t) (iblk m c 3 t) (iblk m c 4 t) (iblk m c 5 t) (iblk m c 6 t)) y
      = REFH (REF (A0 m c) (A1 m c) (A2 m c) (A3 m c) (A4 m c) (A5 m c)) (A6 m c) (((cfg0.win 10).blk t).view.emb y) := by
  have hN : t.val < 64 := lt_of_lt_of_eq t.isLt (show cfg0.N = 64 from N_0)
  obtain ⟨a, b, rfl⟩ : ∃ (a : Fin 8192) (b : Fin 128), y = ix2 a b := ⟨y 0, y 1, eq_ix2 y⟩
  have e : ((cfg0.win 10).blk t).view.emb (ix2 a b) = (ix2 ⟨t.val * 8192 + a.val, by omega⟩ b : S524288x128.Idx) := by
    blk_ext [idx t]
  rw [e]
  refine Eq.trans ?_ (cast_at (NREF2 (REF (A0 m c) (A1 m c) (A2 m c) (A3 m c) (A4 m c) (A5 m c)) (A6 m c)) ⟨t.val * 8192 + a.val, by omega⟩ b
    ⟨t.val * 512 + a.val / 16, by omega⟩ ⟨128 * (a.val % 16) + b.val, by omega⟩ (by show _ = (t.val * 8192 + a.val) / 16; show t.val * 512 + a.val / 16 = _; omega)
    (by show 128 * (a.val % 16) + b.val = 128 * ((t.val * 8192 + a.val) % 16) + b.val; omega)).symm
  exact pointN m c t ⟨a.val / 16, by omega⟩ ⟨128 * (a.val % 16) + b.val, by omega⟩ _ rfl

/-- The first result array after the run is the reference's term. -/
theorem final9 (c : Dev nD) : (dats m 0 c).arrAt 9 cfg0.N = REF (A0 m c) (A1 m c) (A2 m c) (A3 m c) (A4 m c) (A5 m c) := by
  refine (dats m 0 c).arrAt_eq_of_covers 9 _ (by decide +kernel) fun t _ y => ?_
  blk_simp
  rw [after0_9]
  exact point9 m c t y

/-- The second result array after the run is the reference's term. -/
theorem final10 (c : Dev nD) : (dats m 0 c).arrAt 10 cfg0.N = REFH (REF (A0 m c) (A1 m c) (A2 m c) (A3 m c) (A4 m c) (A5 m c)) (A6 m c) := by
  refine (dats m 0 c).arrAt_eq_of_covers 10 _ (by decide +kernel) fun t _ y => ?_
  blk_simp
  rw [after0_10]
  exact point10 m c t y

end Cert.OutprojIdeal.RefValue

end
-- ==== Proof.OutprojClaims.lean ====
/-
  The claims about the output projection: the frames, nothing rewritten, and the values of both results.
-/
module

public import proofs.«01_k».proof.Defs
public import proofs.«01_k».proof.Proof.OutprojFrame
public import proofs.«01_k».proof.Proof.Gen.OutprojRefIdeal.Run
public import proofs.«01_k».proof.Proof.OutprojValue
public import Idealize.ShloMosaic.Lib.Quiescent

@[expose] public section

noncomputable section

open Idealize.ShloMosaic Idealize.ShloMosaic.TcCoe Idealize.SL.Sem

namespace Cert.Proof.OutprojClaims

theorem frame_p : Cert.quiescent_Outproj := fun m ρ _ => Cert.Outproj.Run.frame' m ρ
theorem frame_pi : Cert.quiescent_OutprojIdeal := fun m ρ _ => Cert.OutprojIdeal.Run.frame' m ρ
theorem frame_ri : Cert.quiescent_OutprojRefIdeal := fun m ρ _ =>
  (θ_run Cert.OutprojRefIdeal.defs _ _).mono (fun r h => ⟨fun c => (h c).2.2, Idealize.ShloMosaic.sem_eq_zero_of_no_sems (by decide) r.2⟩)
    (Cert.OutprojRefIdeal.Value.run (F := Ideal) m ρ)
theorem preserves : Cert.preserves_Outproj_OutprojIdeal := trivial

/-- From memories that agree on the arguments both programs end with the reference's terms in the result arrays. -/
theorem algebraic : Cert.algebraic_OutprojIdeal_OutprojRefIdeal := by
  intro m ρ m' ρ' _ hagree
  refine ⟨_, _, (θ_run Cert.OutprojIdeal.defs _ _).mono (fun _ h c => ⟨((h.1 c).1 (9 : Fin 13)).trans (Cert.OutprojIdeal.RefValue.final9 m c),
      ((h.1 c).1 (10 : Fin 13)).trans (Cert.OutprojIdeal.RefValue.final10 m c), h.2 c⟩)
    (θ_run_and (Cert.OutprojIdeal.Run.run_main (F := Ideal) m ρ) (Cert.OutprojIdeal.Run.unchanged (F := Ideal) m ρ)), ?_⟩
  refine (θ_run Cert.OutprojRefIdeal.defs _ _).mono (fun _ h c => ⟨(h c).1.trans ?_, (h c).2.1.trans ?_, (h c).2.2⟩)
    (Cert.OutprojRefIdeal.Value.run (F := Ideal) m' ρ')
  · rw [(hagree c).1, (hagree c).2.1, (hagree c).2.2.1, (hagree c).2.2.2.1, (hagree c).2.2.2.2.1, (hagree c).2.2.2.2.2.1] <;> rfl
  · unfold Cert.OutprojRefIdeal.Value.res_main_v42
    rw [(hagree c).1, (hagree c).2.1, (hagree c).2.2.1, (hagree c).2.2.2.1, (hagree c).2.2.2.2.1, (hagree c).2.2.2.2.2.1, (hagree c).2.2.2.2.2.2.1] <;> rfl

end Cert.Proof.OutprojClaims

end
-- ==== Proof.ExpertsIdealRun.lean ====
module

public import proofs.«01_k».proof.Defs
public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.VecWindow
public import Idealize.ShloMosaic.Lib.ValueIdx
public import Idealize.ShloMosaic.Lib.Pipeline.Value

@[expose] public section

set_option maxRecDepth 16384
set_option Elab.async false

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- The two tables and the two scratches the kernel is handed, whole. -/
abbrev tb0 : Memref sig .tc .smem S288 .i32 := Memref.whole main_v16
abbrev tb1 : Memref sig .tc .smem S1 .i32 := Memref.whole main_arg1
abbrev sc0 : Memref sig .tc .vmem S512x2048 .bf16 := Memref.whole cc0_scratch0
abbrev sc1 : Memref sig .tc .vmem S512x2048 .f32 := Memref.whole cc0_scratch1

/-- The number of blocks in use, as the body reads it from its table. -/
abbrev nuW (T1 : S1.Idx → Elt F .i32) : BitVec 32 :=
  View.readAt (Elt F) tb1.view (Rect.unit (s := S1) ![0] S1.size inb_S1_S1_0).toLoadRect T1 (Shape.Idx.first (numel1_S1.symm ▸ Nat.one_pos))

/-- Whether the second grid coordinate is zero, and whether it is positive, as the body computes them. -/
abbrev condZ (i : grid0.Coords) : BitVec 1 := Scalar.cmpi .ne (Scalar.extui (Scalar.cmpi .eq (BitVec.ofNat 32 (i 1).val) 0#32)) (0#32 : BitVec 32)
abbrev condG (i : grid0.Coords) : BitVec 1 := Scalar.cmpi .ne (Scalar.extui (Scalar.cmpi .sgt (BitVec.ofNat 32 (i 1).val) 0#32)) (0#32 : BitVec 32)

variable (c : Dev nD) (i : grid0.Coords) (arg4 : Memref sig .tc .vmem S8192x128 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S8192x128 .f32) (harg11 : arg11.IsWhole)
  (T0 : S288.Idx → Elt F .i32) (T1 : S1.Idx → Elt F .i32) (x0 : S8192x128.Idx → Elt F .f32) (x1 : S1x2048x512.Idx → Elt F .bf16) (x2 : S1x2048x512.Idx → Elt F .bf16) (x3 : S1x1x512.Idx → Elt F .f32) (x4 : S1x1x512.Idx → Elt F .f32) (x5 : S1x512x2048.Idx → Elt F .bf16) (x6 : S1x1x2048.Idx → Elt F .f32)
  (xa0 : Buf (Elt F) ((c : Thread nD τ).loc cc0_scratch0)) (xa1 : Buf (Elt F) ((c : Thread nD τ).loc cc0_scratch1))

set_option backward.proofsInPublic true in
set_option maxHeartbeats 8000000 in
/-- A block past those in use, not at its last point: the body does nothing. -/
noncomputable def runA (hU : ¬(k0_cond1 i (nuW T1) = 1#1)) (hE : ¬(k0_cond6 i (nuW T1) = 1#1)) :
    Σ' (out0 : Buf (Elt F) ((c : Thread nD τ).loc cc0_scratch0)), { out1 : Buf (Elt F) ((c : Thread nD τ).loc cc0_scratch1) //
      ∀ (y7 : S8192x128.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ owns (c : Thread nD τ) arg11 fullShare y7
          ∗ (sc0.view.loc (c : Thread nD τ) ↦{fullShare} xa0)
          ∗ (sc1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ owns (c : Thread nD τ) arg11 fullShare y7
          ∗ (sc0.view.loc (c : Thread nD τ) ↦{fullShare} out0)
          ∗ (sc1.view.loc (c : Thread nD τ) ↦{fullShare} out1)) -∗ K ⟨⟩))
          ⊢ wp frame (wpE (defs₀ (F := F)) Variants.none c none) Set.univ (cc0_experts i tb0 (Memref.isWhole_whole _) tb1 (Memref.isWhole_whole _) arg4 harg4 arg5 harg5 arg6 harg6 arg7 harg7 arg8 harg8 arg9 harg9 arg10 harg10 arg11 harg11 sc0 (Memref.isWhole_whole _) sc1 (Memref.isWhole_whole _)) K } :=
  ⟨_, _, fun (y7 : S8192x128.Idx → Elt F .f32) K => by
    unfold owns
    rw [cc0_experts_eq_skeleton]; unfold cc0_experts_skel
    iintro ⟨H0, H1, H2, H3, H4, H5, H6, HT0, HT1, ⟨%f7, %hf7, HO7⟩, HS0, HS1, Hk⟩
    obtain rfl := harg11.eq_unread hf7
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | exact hU | exact hE)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]
    · iexists _; isplitr; · ipureintro; exact harg11.read_unread _
      iexact HO7
    isplitl [HS0]; · iexact HS0
    iexact HS1⟩

set_option backward.proofsInPublic true in
set_option maxHeartbeats 8000000 in
/-- A block past those in use, at its last point: the body stores zeros. -/
noncomputable def runB (hU : ¬(k0_cond1 i (nuW T1) = 1#1)) (hE : k0_cond6 i (nuW T1) = 1#1) :
    Σ' (out2 : List (View.Piece (Elt F) S8192x128 .f32)) (out0 : Buf (Elt F) ((c : Thread nD τ).loc cc0_scratch0)), { out1 : Buf (Elt F) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ (∃ d, owns (c : Thread nD τ) arg11 fullShare d)
          ∗ (sc0.view.loc (c : Thread nD τ) ↦{fullShare} xa0)
          ∗ (sc1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ (∃ f, arg11.view.loc (c : Thread nD τ) ↦[arg11.view.set]{fullShare} arg11.view.writes (Elt F) f out2)
          ∗ (sc0.view.loc (c : Thread nD τ) ↦{fullShare} out0)
          ∗ (sc1.view.loc (c : Thread nD τ) ↦{fullShare} out1)) -∗ K ⟨⟩))
          ⊢ wp frame (wpE (defs₀ (F := F)) Variants.none c none) Set.univ (cc0_experts i tb0 (Memref.isWhole_whole _) tb1 (Memref.isWhole_whole _) arg4 harg4 arg5 harg5 arg6 harg6 arg7 harg7 arg8 harg8 arg9 harg9 arg10 harg10 arg11 harg11 sc0 (Memref.isWhole_whole _) sc1 (Memref.isWhole_whole _)) K } :=
  ⟨_, _, _, fun K => by
    unfold owns
    rw [cc0_experts_eq_skeleton]; unfold cc0_experts_skel
    iintro ⟨H0, H1, H2, H3, H4, H5, H6, HT0, HT1, ⟨%d7, %f7, -, HO7⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | exact hU | exact hE)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]; · iexists _; iexact HO7
    isplitl [HS0]; · iexact HS0
    iexact HS1⟩

set_option backward.proofsInPublic true in
set_option maxHeartbeats 8000000 in
/-- A block in use at its first point: the rows are packed, the accumulator starts. -/
noncomputable def runC (hU : k0_cond1 i (nuW T1) = 1#1) (hZ : condZ i = 1#1) (hG : ¬(condG i = 1#1)) (hL : ¬(k0_cond5 i = 1#1)) (hE : ¬(k0_cond6 i (nuW T1) = 1#1)) :
    Σ' (out0 : Buf (Elt F) ((c : Thread nD τ).loc cc0_scratch0)), { out1 : Buf (Elt F) ((c : Thread nD τ).loc cc0_scratch1) //
      ∀ (y7 : S8192x128.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ owns (c : Thread nD τ) arg11 fullShare y7
          ∗ (sc0.view.loc (c : Thread nD τ) ↦{fullShare} xa0)
          ∗ (sc1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ owns (c : Thread nD τ) arg11 fullShare y7
          ∗ (sc0.view.loc (c : Thread nD τ) ↦{fullShare} out0)
          ∗ (sc1.view.loc (c : Thread nD τ) ↦{fullShare} out1)) -∗ K ⟨⟩))
          ⊢ wp frame (wpE (defs₀ (F := F)) Variants.none c none) Set.univ (cc0_experts i tb0 (Memref.isWhole_whole _) tb1 (Memref.isWhole_whole _) arg4 harg4 arg5 harg5 arg6 harg6 arg7 harg7 arg8 harg8 arg9 harg9 arg10 harg10 arg11 harg11 sc0 (Memref.isWhole_whole _) sc1 (Memref.isWhole_whole _)) K } :=
  ⟨_, _, fun (y7 : S8192x128.Idx → Elt F .f32) K => by
    unfold owns
    rw [cc0_experts_eq_skeleton]; unfold cc0_experts_skel
    iintro ⟨H0, H1, H2, H3, H4, H5, H6, HT0, HT1, ⟨%f7, %hf7, HO7⟩, HS0, HS1, Hk⟩
    obtain rfl := harg11.eq_unread hf7
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | exact hU | exact hZ | exact hG | exact hL | exact hE)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]
    · iexists _; isplitr; · ipureintro; exact harg11.read_unread _
      iexact HO7
    isplitl [HS0]; · iexact HS0
    iexact HS1⟩

set_option backward.proofsInPublic true in
set_option maxHeartbeats 8000000 in
/-- A block in use between its first and its last point: the accumulator grows. -/
noncomputable def runD (hU : k0_cond1 i (nuW T1) = 1#1) (hZ : ¬(condZ i = 1#1)) (hG : condG i = 1#1) (hL : ¬(k0_cond5 i = 1#1)) (hE : ¬(k0_cond6 i (nuW T1) = 1#1)) :
    Σ' (out0 : Buf (Elt F) ((c : Thread nD τ).loc cc0_scratch0)), { out1 : Buf (Elt F) ((c : Thread nD τ).loc cc0_scratch1) //
      ∀ (y7 : S8192x128.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ owns (c : Thread nD τ) arg11 fullShare y7
          ∗ (sc0.view.loc (c : Thread nD τ) ↦{fullShare} xa0)
          ∗ (sc1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ owns (c : Thread nD τ) arg11 fullShare y7
          ∗ (sc0.view.loc (c : Thread nD τ) ↦{fullShare} out0)
          ∗ (sc1.view.loc (c : Thread nD τ) ↦{fullShare} out1)) -∗ K ⟨⟩))
          ⊢ wp frame (wpE (defs₀ (F := F)) Variants.none c none) Set.univ (cc0_experts i tb0 (Memref.isWhole_whole _) tb1 (Memref.isWhole_whole _) arg4 harg4 arg5 harg5 arg6 harg6 arg7 harg7 arg8 harg8 arg9 harg9 arg10 harg10 arg11 harg11 sc0 (Memref.isWhole_whole _) sc1 (Memref.isWhole_whole _)) K } :=
  ⟨_, _, fun (y7 : S8192x128.Idx → Elt F .f32) K => by
    unfold owns
    rw [cc0_experts_eq_skeleton]; unfold cc0_experts_skel
    iintro ⟨H0, H1, H2, H3, H4, H5, H6, HT0, HT1, ⟨%f7, %hf7, HO7⟩, HS0, HS1, Hk⟩
    obtain rfl := harg11.eq_unread hf7
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | exact hU | exact hZ | exact hG | exact hL | exact hE)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]
    · iexists _; isplitr; · ipureintro; exact harg11.read_unread _
      iexact HO7
    isplitl [HS0]; · iexact HS0
    iexact HS1⟩

set_option backward.proofsInPublic true in
set_option maxHeartbeats 8000000 in
/-- A block in use at its last point: the accumulator grows and the block is stored. -/
noncomputable def runE (hU : k0_cond1 i (nuW T1) = 1#1) (hZ : ¬(condZ i = 1#1)) (hG : condG i = 1#1) (hL : k0_cond5 i = 1#1) (hE : ¬(k0_cond6 i (nuW T1) = 1#1)) :
    Σ' (out2 : List (View.Piece (Elt F) S8192x128 .f32)) (out0 : Buf (Elt F) ((c : Thread nD τ).loc cc0_scratch0)), { out1 : Buf (Elt F) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ (∃ d, owns (c : Thread nD τ) arg11 fullShare d)
          ∗ (sc0.view.loc (c : Thread nD τ) ↦{fullShare} xa0)
          ∗ (sc1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tb0.view.loc (c : Thread nD τ) ↦{fullShare.right} T0)
          ∗ (tb1.view.loc (c : Thread nD τ) ↦{fullShare.right} T1)
          ∗ (∃ f, arg11.view.loc (c : Thread nD τ) ↦[arg11.view.set]{fullShare} arg11.view.writes (Elt F) f out2)
          ∗ (sc0.view.loc (c : Thread nD τ) ↦{fullShare} out0)
          ∗ (sc1.view.loc (c : Thread nD τ) ↦{fullShare} out1)) -∗ K ⟨⟩))
          ⊢ wp frame (wpE (defs₀ (F := F)) Variants.none c none) Set.univ (cc0_experts i tb0 (Memref.isWhole_whole _) tb1 (Memref.isWhole_whole _) arg4 harg4 arg5 harg5 arg6 harg6 arg7 harg7 arg8 harg8 arg9 harg9 arg10 harg10 arg11 harg11 sc0 (Memref.isWhole_whole _) sc1 (Memref.isWhole_whole _)) K } :=
  ⟨_, _, _, fun K => by
    unfold owns
    rw [cc0_experts_eq_skeleton]; unfold cc0_experts_skel
    iintro ⟨H0, H1, H2, H3, H4, H5, H6, HT0, HT1, ⟨%d7, %f7, -, HO7⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | exact hU | exact hZ | exact hG | exact hL | exact hE)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]; · iexists _; iexact HO7
    isplitl [HS0]; · iexact HS0
    iexact HS1⟩

omit [FloatOps F] in
/-- The rows of a block, eight by sixteen lanes to a row: row `r`, column `q` of the packed block is row `16 r + q / 128`,
    lane `q % 128` of the tile. -/
def rowOf {e : EltTy} (x : S8192x128.Idx → Elt F e) : S512x2048.Idx → Elt F e := fun y =>
  x (ix2 (⟨16 * (y 0).val + (y 1).val / 128, by have h0 : (y 0).val < 512 := (y 0).isLt; have h1 : (y 1).val < 2048 := (y 1).isLt; omega⟩ : Fin 8192)
    (⟨(y 1).val % 128, Nat.mod_lt _ (by norm_num)⟩ : Fin 128))

/-- The packed block laid out as the tile again. -/
def tileOf {e : EltTy} (v : S512x2048.Idx → Elt F e) : S8192x128.Idx → Elt F e := fun y =>
  v (ix2 (⟨(y 0).val / 16, by have h0 : (y 0).val < 8192 := (y 0).isLt; omega⟩ : Fin 512)
    (⟨128 * ((y 0).val % 16) + (y 1).val, by have h1 : (y 1).val < 128 := (y 1).isLt; omega⟩ : Fin 2048))

/-- The tile's rows packed and rounded: what the first scratch holds while a block is worked on. -/
def XB (x0 : S8192x128.Idx → Elt F .f32) : S512x2048.Idx → Elt F .bf16 := truncf .bf16 (rowOf x0 : FVec F S512x2048 .f32) bitsLt_bf16_f32

/-- One chunk's part of the block's result, started and added. -/
def part0 (b : S512x2048.Idx → Elt F .bf16) (x1 x2 : S1x2048x512.Idx → Elt F .bf16) (x3 x4 : S1x1x512.Idx → Elt F .f32) (x5 : S1x512x2048.Idx → Elt F .bf16) :
    S512x2048.Idx → Elt F .f32 := k0_pay1 (k0_pay38 b x1 x3 x2 x4) x5
def partS (a : S512x2048.Idx → Elt F .f32) (b : S512x2048.Idx → Elt F .bf16) (x1 x2 : S1x2048x512.Idx → Elt F .bf16) (x3 x4 : S1x1x512.Idx → Elt F .f32)
    (x5 : S1x512x2048.Idx → Elt F .bf16) : S512x2048.Idx → Elt F .f32 := addf (a : FVec F S512x2048 .f32) (part0 b x1 x2 x3 x4 x5)

/-- The block's stored result, from the finished accumulator. -/
def OUT (a : S512x2048.Idx → Elt F .f32) (x6 : S1x1x2048.Idx → Elt F .f32) : S8192x128.Idx → Elt F .f32 := tileOf (k0_pay23 a x6)

/-- A load of every sixteenth row from `k` on reads column block `k` of the packed rows. -/
theorem chunk {sp : Space} {e : EltTy} (v : View sig .tc sp S8192x128 e) (x0 : S8192x128.Idx → Elt F e) (k : ℕ) (hk : k < 16)
    (h : ∀ a, S512x128.size a = 0 ∨ (![k, 0] : Fin 2 → ℕ) a + (![16, 1] : Fin 2 → ℕ) a * (S512x128.size a - 1) < S8192x128.size a)
    (h' : ∀ a, (![0, 128 * k] : Fin 2 → ℕ) a + S512x128.size a ≤ S512x2048.size a) (x : S512x128.Idx) :
    View.readAt (Elt F) v { off := ![k, 0], size := S512x128.size, stride := ![16, 1], inb := h } (v.rep x0) x
      = rowOf x0 ((Rect.unit (s := S512x2048) ![0, 128 * k] S512x128.size h').emb x) := by
  rw [View.readAt_apply, View.read_rep]
  unfold rowOf
  have h0 : (x 0).val < 512 := (x 0).isLt
  have h1 : (x 1).val < 128 := (x 1).isLt
  refine congrArg x0 (funext fun a => Fin.ext ?_)
  match a with
  | ⟨0, _⟩ =>
    show k + 16 * (x 0).val = 16 * (0 + 1 * (x 0).val) + (128 * k + 1 * (x 1).val) / 128
    omega
  | ⟨1, _⟩ =>
    show 0 + 1 * (x 1).val = (128 * k + 1 * (x 1).val) % 128
    omega

/-- Every sixteenth row from `k` on, as a rectangle. -/
theorem row_mem (k : ℕ) (h : ∀ a, S512x128.size a = 0 ∨ (![k, 0] : Fin 2 → ℕ) a + (![16, 1] : Fin 2 → ℕ) a * (S512x128.size a - 1) < S8192x128.size a)
    (hs : ∀ a, 0 < (![16, 1] : Fin 2 → ℕ) a) (y : S8192x128.Idx) (hy : (y 0).val % 16 = k) :
    y ∈ ({ off := ![k, 0], size := S512x128.size, stride := ![16, 1], inb := h, stride_pos := hs } : Rect S8192x128).set := by
  rw [← Rect.map_emb_univ]
  have h0 : (y 0).val < 8192 := (y 0).isLt
  have h1 : (y 1).val < 128 := (y 1).isLt
  refine Finset.mem_map.2 ⟨ix2 (⟨(y 0).val / 16, by omega⟩ : Fin 512) (⟨(y 1).val, h1⟩ : Fin 128), Finset.mem_univ _, funext fun a => Fin.ext ?_⟩
  match a with
  | ⟨0, _⟩ => show k + 16 * ((y 0).val / 16) = (y 0).val; omega
  | ⟨1, _⟩ => show 0 + 1 * (y 1).val = (y 1).val; omega

/-- Column block `k` of the packed rows, as a rectangle. -/
theorem col_mem (k : ℕ) (h' : ∀ a, (![0, 128 * k] : Fin 2 → ℕ) a + S512x128.size a ≤ S512x2048.size a) (y : S512x2048.Idx)
    (hy : (y 1).val / 128 = k) : y ∈ (Rect.unit (s := S512x2048) ![0, 128 * k] S512x128.size h').set := by
  rw [← Rect.map_emb_univ]
  have h0 : (y 0).val < 512 := (y 0).isLt
  have h1 : (y 1).val < 2048 := (y 1).isLt
  refine Finset.mem_map.2 ⟨ix2 (⟨(y 0).val, h0⟩ : Fin 512) (⟨(y 1).val % 128, Nat.mod_lt _ (by norm_num)⟩ : Fin 128), Finset.mem_univ _, funext fun a => Fin.ext ?_⟩
  match a with
  | ⟨0, _⟩ => show 0 + 1 * (y 0).val = (y 0).val; omega
  | ⟨1, _⟩ => show 128 * k + 1 * ((y 1).val % 128) = (y 1).val; omega

/-- A column block of the packed rows, stored to every sixteenth row, is the tile's own entries there. -/
theorem slice_tile (v : S512x2048.Idx → Elt F .f32) (k : ℕ) (hk : k < 16)
    (h : ∀ a, S512x128.size a = 0 ∨ (![k, 0] : Fin 2 → ℕ) a + (![16, 1] : Fin 2 → ℕ) a * (S512x128.size a - 1) < S8192x128.size a)
    (hs : ∀ a, 0 < (![16, 1] : Fin 2 → ℕ) a) (h' : S512x2048.Slices ![0, 128 * k] S512x128) (x : S512x128.Idx) :
    extractStridedSlice S512x128 ![0, 128 * k] v h' x
      = tileOf v (({ off := ![k, 0], size := S512x128.size, stride := ![16, 1], inb := h, stride_pos := hs } : Rect S8192x128).emb x) := by
  unfold tileOf extractStridedSlice
  have h0 : (x 0).val < 512 := (x 0).isLt
  have h1 : (x 1).val < 128 := (x 1).isLt
  refine congrArg v (funext fun a => Fin.ext ?_)
  match a with
  | ⟨0, _⟩ =>
    show 0 + (x 0).val = (k + 16 * (x 0).val) / 16
    omega
  | ⟨1, _⟩ =>
    show 128 * k + (x 1).val = 128 * ((k + 16 * (x 0).val) % 16) + (0 + 1 * (x 1).val)
    omega

/-- What a view holds after its whole shape is stored last. -/
theorem read_whole {sp : Space} {s : Shape} {e : EltTy} (v : View sig .tc sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f (⟨Rect.unit off s.size inb, w⟩ :: L)) = w := by
  funext y
  have h : (Rect.unit off s.size inb).emb y = y := funext fun a => Fin.ext (by
    show off a + 1 * (y a).val = (y a).val
    have := inb a; omega)
  conv_lhs => rw [← h]
  exact View.read_writes_cons_emb v f (Rect.unit off s.size inb) w L y

/-- The sixteen column blocks, once stored, are the packed rows. -/
theorem packed {sp : Space} (v : View sig .tc sp S512x2048 .bf16) (f : v.ty.Contents (Elt F)) (arg4 : Memref sig .tc .vmem S8192x128 .f32) (x0 : S8192x128.Idx → Elt F .f32) :
    v.read (Elt F) (v.writes (Elt F) f (runC.sl.HS0_16 arg4 x0)) = XB x0 := by
  funext y
  refine View.read_writes_apply_of_pieces v f (XB x0) _ ?_ y ?_
  · delta runC.sl.HS0_16
    simp only [List.forall_mem_cons, List.not_mem_nil, IsEmpty.forall_iff, implies_true, _root_.and_true]
    refine ⟨fun x => by
      unfold k0_pay37; rw [shapeCast_self]; exact congrArg (FloatOps.truncf .bf16 bitsLt_bf16_f32) (chunk arg4.view x0 15 (by norm_num) _ inb_S512x2048_S512x128_0_1920 x),
      fun x => by
      unfold k0_pay36; rw [shapeCast_self]; exact congrArg (FloatOps.truncf .bf16 bitsLt_bf16_f32) (chunk arg4.view x0 14 (by norm_num) _ inb_S512x2048_S512x128_0_1792 x),
      fun x => by
      unfold k0_pay35; rw [shapeCast_self]; exact congrArg (FloatOps.truncf .bf16 bitsLt_bf16_f32) (chunk arg4.view x0 13 (by norm_num) _ inb_S512x2048_S512x128_0_1664 x),
      fun x => by
      unfold k0_pay34; rw [shapeCast_self]; exact congrArg (FloatOps.truncf .bf16 bitsLt_bf16_f32) (chunk arg4.view x0 12 (by norm_num) _ inb_S512x2048_S512x128_0_1536 x),
      fun x => by
      unfold k0_pay22; rw [shapeCast_self]; exact congrArg (FloatOps.truncf .bf16 bitsLt_bf16_f32) (chunk arg4.view x0 11 (by norm_num) _ inb_S512x2048_S512x128_0_1408 x),
      fun x => by
      unfold k0_pay21; rw [shapeCast_self]; exact congrArg (FloatOps.truncf .bf16 bitsLt_bf16_f32) (chunk arg4.view x0 10 (by norm_num) _ inb_S512x2048_S512x128_0_1280 x),
      fun x => by
      unfold k0_pay20; rw [shapeCast_self]; exact congrArg (FloatOps.truncf .bf16 bitsLt_bf16_f32) (chunk arg4.view x0 9 (by norm_num) _ inb_S512x2048_S512x128_0_1152 x),
      fun x => by
      unfold k0_pay19; rw [shapeCast_self]; exact congrArg (FloatOps.truncf .bf16 bitsLt_bf16_f32) (chunk arg4.view x0 8 (by norm_num) _ inb_S512x2048_S512x128_0_1024 x),
      fun x => by
      unfold k0_pay18; rw [shapeCast_self]; exact congrArg (FloatOps.truncf .bf16 bitsLt_bf16_f32) (chunk arg4.view x0 7 (by norm_num) _ inb_S512x2048_S512x128_0_896 x),
      fun x => by
      unfold k0_pay17; rw [shapeCast_self]; exact congrArg (FloatOps.truncf .bf16 bitsLt_bf16_f32) (chunk arg4.view x0 6 (by norm_num) _ inb_S512x2048_S512x128_0_768 x),
      fun x => by
      unfold k0_pay16; rw [shapeCast_self]; exact congrArg (FloatOps.truncf .bf16 bitsLt_bf16_f32) (chunk arg4.view x0 5 (by norm_num) _ inb_S512x2048_S512x128_0_640 x),
      fun x => by
      unfold k0_pay15; rw [shapeCast_self]; exact congrArg (FloatOps.truncf .bf16 bitsLt_bf16_f32) (chunk arg4.view x0 4 (by norm_num) _ inb_S512x2048_S512x128_0_512 x),
      fun x => by
      unfold k0_pay14; rw [shapeCast_self]; exact congrArg (FloatOps.truncf .bf16 bitsLt_bf16_f32) (chunk arg4.view x0 3 (by norm_num) _ inb_S512x2048_S512x128_0_384 x),
      fun x => by
      unfold k0_pay13; rw [shapeCast_self]; exact congrArg (FloatOps.truncf .bf16 bitsLt_bf16_f32) (chunk arg4.view x0 2 (by norm_num) _ inb_S512x2048_S512x128_0_256 x),
      fun x => by
      unfold k0_pay12; rw [shapeCast_self]; exact congrArg (FloatOps.truncf .bf16 bitsLt_bf16_f32) (chunk arg4.view x0 1 (by norm_num) _ inb_S512x2048_S512x128_0_128 x),
      fun x => by
      unfold k0_pay11; rw [shapeCast_self]; exact congrArg (FloatOps.truncf .bf16 bitsLt_bf16_f32) (chunk arg4.view x0 0 (by norm_num) _ inb_S512x2048_S512x128_0_0 x)⟩
  · delta runC.sl.HS0_16
    simp only [List.exists_mem_cons_iff]
    have h1 : (y 1).val / 128 < 16 := by have h : (y 1).val < 2048 := (y 1).isLt; omega
    obtain ⟨k, hk⟩ : ∃ k, (y 1).val / 128 = k := ⟨_, rfl⟩
    rw [hk] at h1
    interval_cases k
    · exact Or.inr (Or.inr (Or.inr (Or.inr (Or.inr (Or.inr (Or.inr (Or.inr (Or.inr (Or.inr (Or.inr (Or.inr (Or.inr (Or.inr (Or.inr (Or.inl (col_mem 0 _ y hk))))))))))))))))
    · exact Or.inr (Or.inr (Or.inr (Or.inr (Or.inr (Or.inr (Or.inr (Or.inr (Or.inr (Or.inr (Or.inr (Or.inr (Or.inr (Or.inr (Or.inl (col_mem 1 _ y hk)))))))))))))))
    · exact Or.inr (Or.inr (Or.inr (Or.inr (Or.inr (Or.inr (Or.inr (Or.inr (Or.inr (Or.inr (Or.inr (Or.inr (Or.inr (Or.inl (col_mem 2 _ y hk))))))))))))))
    · exact Or.inr (Or.inr (Or.inr (Or.inr (Or.inr (Or.inr (Or.inr (Or.inr (Or.inr (Or.inr (Or.inr (Or.inr (Or.inl (col_mem 3 _ y hk)))))))))))))
    · exact Or.inr (Or.inr (Or.inr (Or.inr (Or.inr (Or.inr (Or.inr (Or.inr (Or.inr (Or.inr (Or.inr (Or.inl (col_mem 4 _ y hk))))))))))))
    · exact Or.inr (Or.inr (Or.inr (Or.inr (Or.inr (Or.inr (Or.inr (Or.inr (Or.inr (Or.inr (Or.inl (col_mem 5 _ y hk)))))))))))
    · exact Or.inr (Or.inr (Or.inr (Or.inr (Or.inr (Or.inr (Or.inr (Or.inr (Or.inr (Or.inl (col_mem 6 _ y hk))))))))))
    · exact Or.inr (Or.inr (Or.inr (Or.inr (Or.inr (Or.inr (Or.inr (Or.inr (Or.inl (col_mem 7 _ y hk)))))))))
    · exact Or.inr (Or.inr (Or.inr (Or.inr (Or.inr (Or.inr (Or.inr (Or.inl (col_mem 8 _ y hk))))))))
    · exact Or.inr (Or.inr (Or.inr (Or.inr (Or.inr (Or.inr (Or.inl (col_mem 9 _ y hk)))))))
    · exact Or.inr (Or.inr (Or.inr (Or.inr (Or.inr (Or.inl (col_mem 10 _ y hk))))))
    · exact Or.inr (Or.inr (Or.inr (Or.inr (Or.inl (col_mem 11 _ y hk)))))
    · exact Or.inr (Or.inr (Or.inr (Or.inl (col_mem 12 _ y hk))))
    · exact Or.inr (Or.inr (Or.inl (col_mem 13 _ y hk)))
    · exact Or.inr (Or.inl (col_mem 14 _ y hk))
    · exact Or.inl (col_mem 15 _ y hk)

theorem runC_0 h1 h2 h3 h4 h5 : sc0.view.read (Elt F) (runC (F := F) c i arg4 harg4 arg5 harg5 arg6 harg6 arg7 harg7 arg8 harg8 arg9 harg9 arg10 harg10 arg11 harg11 T0 T1 x0 x1 x2 x3 x4 x5 x6 xa0 xa1 h1 h2 h3 h4 h5).1 = XB x0 := by
  unfold runC
  exact packed _ _ arg4 x0

theorem runC_1 h1 h2 h3 h4 h5 : sc1.view.read (Elt F) (runC (F := F) c i arg4 harg4 arg5 harg5 arg6 harg6 arg7 harg7 arg8 harg8 arg9 harg9 arg10 harg10 arg11 harg11 T0 T1 x0 x1 x2 x3 x4 x5 x6 xa0 xa1 h1 h2 h3 h4 h5).2.1 = part0 (XB x0) x1 x2 x3 x4 x5 := by
  unfold runC
  dsimp only
  delta runC.sl.HS1_1
  refine (read_whole _ _ _ _ _).trans ?_
  unfold k0_pay2
  delta runC.sl.r_1 runC.sl.v13
  rw [shapeCast_self]
  rw [View.readAt_rep_full, View.readAt_rep_full, View.readAt_rep_full, View.readAt_rep_full, View.readAt_rep_full]
  unfold View.readCov
  rw [View.readAt_full, packed]
  rfl

theorem runD_0 h1 h2 h3 h4 h5 : (runD (F := F) c i arg4 harg4 arg5 harg5 arg6 harg6 arg7 harg7 arg8 harg8 arg9 harg9 arg10 harg10 arg11 harg11 T0 T1 x0 x1 x2 x3 x4 x5 x6 xa0 xa1 h1 h2 h3 h4 h5).1 = xa0 := rfl

theorem runD_1 h1 h2 h3 h4 h5 : sc1.view.read (Elt F) (runD (F := F) c i arg4 harg4 arg5 harg5 arg6 harg6 arg7 harg7 arg8 harg8 arg9 harg9 arg10 harg10 arg11 harg11 T0 T1 x0 x1 x2 x3 x4 x5 x6 xa0 xa1 h1 h2 h3 h4 h5).2.1
    = partS (sc1.view.read (Elt F) xa1) (sc0.view.read (Elt F) xa0) x1 x2 x3 x4 x5 := by
  unfold runD
  dsimp only
  delta runD.sl.HS1_1
  refine (read_whole _ _ _ _ _).trans ?_
  delta runD.sl.r_1
  unfold k0_pay3
  dsimp only
  rw [shapeCast_self]
  rw [View.readAt_rep_full, View.readAt_rep_full, View.readAt_rep_full, View.readAt_rep_full, View.readAt_rep_full, View.readAt_full, View.readAt_full]
  rfl

theorem runE_0 h1 h2 h3 h4 h5 : (runE (F := F) c i arg4 harg4 arg5 harg5 arg6 harg6 arg7 harg7 arg8 harg8 arg9 harg9 arg10 harg10 arg11 harg11 T0 T1 x0 x1 x2 x3 x4 x5 x6 xa0 xa1 h1 h2 h3 h4 h5).2.1 = xa0 := rfl

theorem runE_1 h1 h2 h3 h4 h5 (v : View sig .tc .vmem S8192x128 .f32) (f : v.ty.Contents (Elt F)) :
    v.read (Elt F) (v.writes (Elt F) f (runE (F := F) c i arg4 harg4 arg5 harg5 arg6 harg6 arg7 harg7 arg8 harg8 arg9 harg9 arg10 harg10 arg11 harg11 T0 T1 x0 x1 x2 x3 x4 x5 x6 xa0 xa1 h1 h2 h3 h4 h5).1)
      = OUT (partS (sc1.view.read (Elt F) xa1) (sc0.view.read (Elt F) xa0) x1 x2 x3 x4 x5) x6 := by
  have hv : runE.sl.v56 c arg5 arg6 arg7 arg8 arg9 x1 x2 x3 x4 x5 xa0 xa1 = partS (sc1.view.read (Elt F) xa1) (sc0.view.read (Elt F) xa0) x1 x2 x3 x4 x5 := by
    delta runE.sl.v56 View.readCov
    rw [View.readAt_full]
    delta runE.sl.HS1_1
    refine (read_whole _ _ _ _ _).trans ?_
    delta runE.sl.r_1
    unfold k0_pay3
    dsimp only
    rw [shapeCast_self]
    rw [View.readAt_rep_full, View.readAt_rep_full, View.readAt_rep_full, View.readAt_rep_full, View.readAt_rep_full, View.readAt_full, View.readAt_full]
    rfl
  have hu : View.readAt (Elt F) arg10.view (Rect.unit (s := S1x1x2048) ![0, 0, 0] ![1, 1, 2048] inb_S1x1x2048_S1x1x2048_0_0_0).toLoadRect (arg10.view.rep x6) = x6 :=
    View.readAt_rep_full arg10.view x6 _
  funext y
  unfold runE
  refine View.read_writes_apply_of_pieces v f _ _ ?_ y ?_
  · simp only [List.forall_mem_cons, List.not_mem_nil, IsEmpty.forall_iff, implies_true, _root_.and_true]
    delta runE.sl.r_2 runE.sl.r_3
    simp only [hv, hu]
    refine ⟨fun x => slice_tile (F := F) (k0_pay23 (partS (sc1.view.read (Elt F) xa1) (sc0.view.read (Elt F) xa0) x1 x2 x3 x4 x5) x6) 15 (by norm_num) inb_S8192x128_S512x128_15_0_s_16_1 spos_16_1 slices_S512x2048_o0_1920_S512x128 x,
      fun x => slice_tile (F := F) (k0_pay23 (partS (sc1.view.read (Elt F) xa1) (sc0.view.read (Elt F) xa0) x1 x2 x3 x4 x5) x6) 14 (by norm_num) inb_S8192x128_S512x128_14_0_s_16_1 spos_16_1 slices_S512x2048_o0_1792_S512x128 x,
      fun x => slice_tile (F := F) (k0_pay23 (partS (sc1.view.read (Elt F) xa1) (sc0.view.read (Elt F) xa0) x1 x2 x3 x4 x5) x6) 13 (by norm_num) inb_S8192x128_S512x128_13_0_s_16_1 spos_16_1 slices_S512x2048_o0_1664_S512x128 x,
      fun x => slice_tile (F := F) (k0_pay23 (partS (sc1.view.read (Elt F) xa1) (sc0.view.read (Elt F) xa0) x1 x2 x3 x4 x5) x6) 12 (by norm_num) inb_S8192x128_S512x128_12_0_s_16_1 spos_16_1 slices_S512x2048_o0_1536_S512x128 x,
      fun x => slice_tile (F := F) (k0_pay23 (partS (sc1.view.read (Elt F) xa1) (sc0.view.read (Elt F) xa0) x1 x2 x3 x4 x5) x6) 11 (by norm_num) inb_S8192x128_S512x128_11_0_s_16_1 spos_16_1 slices_S512x2048_o0_1408_S512x128 x,
      fun x => slice_tile (F := F) (k0_pay23 (partS (sc1.view.read (Elt F) xa1) (sc0.view.read (Elt F) xa0) x1 x2 x3 x4 x5) x6) 10 (by norm_num) inb_S8192x128_S512x128_10_0_s_16_1 spos_16_1 slices_S512x2048_o0_1280_S512x128 x,
      fun x => slice_tile (F := F) (k0_pay23 (partS (sc1.view.read (Elt F) xa1) (sc0.view.read (Elt F) xa0) x1 x2 x3 x4 x5) x6) 9 (by norm_num) inb_S8192x128_S512x128_9_0_s_16_1 spos_16_1 slices_S512x2048_o0_1152_S512x128 x,
      fun x => slice_tile (F := F) (k0_pay23 (partS (sc1.view.read (Elt F) xa1) (sc0.view.read (Elt F) xa0) x1 x2 x3 x4 x5) x6) 8 (by norm_num) inb_S8192x128_S512x128_8_0_s_16_1 spos_16_1 slices_S512x2048_o0_1024_S512x128 x,
      fun x => slice_tile (F := F) (k0_pay23 (partS (sc1.view.read (Elt F) xa1) (sc0.view.read (Elt F) xa0) x1 x2 x3 x4 x5) x6) 7 (by norm_num) inb_S8192x128_S512x128_7_0_s_16_1 spos_16_1 slices_S512x2048_o0_896_S512x128 x,
      fun x => slice_tile (F := F) (k0_pay23 (partS (sc1.view.read (Elt F) xa1) (sc0.view.read (Elt F) xa0) x1 x2 x3 x4 x5) x6) 6 (by norm_num) inb_S8192x128_S512x128_6_0_s_16_1 spos_16_1 slices_S512x2048_o0_768_S512x128 x,
      fun x => slice_tile (F := F) (k0_pay23 (partS (sc1.view.read (Elt F) xa1) (sc0.view.read (Elt F) xa0) x1 x2 x3 x4 x5) x6) 5 (by norm_num) inb_S8192x128_S512x128_5_0_s_16_1 spos_16_1 slices_S512x2048_o0_640_S512x128 x,
      fun x => slice_tile (F := F) (k0_pay23 (partS (sc1.view.read (Elt F) xa1) (sc0.view.read (Elt F) xa0) x1 x2 x3 x4 x5) x6) 4 (by norm_num) inb_S8192x128_S512x128_4_0_s_16_1 spos_16_1 slices_S512x2048_o0_512_S512x128 x,
      fun x => slice_tile (F := F) (k0_pay23 (partS (sc1.view.read (Elt F) xa1) (sc0.view.read (Elt F) xa0) x1 x2 x3 x4 x5) x6) 3 (by norm_num) inb_S8192x128_S512x128_3_0_s_16_1 spos_16_1 slices_S512x2048_o0_384_S512x128 x,
      fun x => slice_tile (F := F) (k0_pay23 (partS (sc1.view.read (Elt F) xa1) (sc0.view.read (Elt F) xa0) x1 x2 x3 x4 x5) x6) 2 (by norm_num) inb_S8192x128_S512x128_2_0_s_16_1 spos_16_1 slices_S512x2048_o0_256_S512x128 x,
      fun x => slice_tile (F := F) (k0_pay23 (partS (sc1.view.read (Elt F) xa1) (sc0.view.read (Elt F) xa0) x1 x2 x3 x4 x5) x6) 1 (by norm_num) inb_S8192x128_S512x128_1_0_s_16_1 spos_16_1 slices_S512x2048_o0_128_S512x128 x,
      fun x => slice_tile (F := F) (k0_pay23 (partS (sc1.view.read (Elt F) xa1) (sc0.view.read (Elt F) xa0) x1 x2 x3 x4 x5) x6) 0 (by norm_num) inb_S8192x128_S512x128_0_0_s_16_1 spos_16_1 slices_S512x2048_o0_0_S512x128 x⟩
  · simp only [List.exists_mem_cons_iff]
    have h1 : (y 0).val % 16 < 16 := Nat.mod_lt _ (by norm_num)
    obtain ⟨k, hk⟩ : ∃ k, (y 0).val % 16 = k := ⟨_, rfl⟩
    rw [hk] at h1
    interval_cases k
    · exact Or.inr (Or.inr (Or.inr (Or.inr (Or.inr (Or.inr (Or.inr (Or.inr (Or.inr (Or.inr (Or.inr (Or.inr (Or.inr (Or.inr (Or.inr (Or.inl (row_mem 0 inb_S8192x128_S512x128_0_0_s_16_1 spos_16_1 y hk))))))))))))))))
    · exact Or.inr (Or.inr (Or.inr (Or.inr (Or.inr (Or.inr (Or.inr (Or.inr (Or.inr (Or.inr (Or.inr (Or.inr (Or.inr (Or.inr (Or.inl (row_mem 1 inb_S8192x128_S512x128_1_0_s_16_1 spos_16_1 y hk)))))))))))))))
    · exact Or.inr (Or.inr (Or.inr (Or.inr (Or.inr (Or.inr (Or.inr (Or.inr (Or.inr (Or.inr (Or.inr (Or.inr (Or.inr (Or.inl (row_mem 2 inb_S8192x128_S512x128_2_0_s_16_1 spos_16_1 y hk))))))))))))))
    · exact Or.inr (Or.inr (Or.inr (Or.inr (Or.inr (Or.inr (Or.inr (Or.inr (Or.inr (Or.inr (Or.inr (Or.inr (Or.inl (row_mem 3 inb_S8192x128_S512x128_3_0_s_16_1 spos_16_1 y hk)))))))))))))
    · exact Or.inr (Or.inr (Or.inr (Or.inr (Or.inr (Or.inr (Or.inr (Or.inr (Or.inr (Or.inr (Or.inr (Or.inl (row_mem 4 inb_S8192x128_S512x128_4_0_s_16_1 spos_16_1 y hk))))))))))))
    · exact Or.inr (Or.inr (Or.inr (Or.inr (Or.inr (Or.inr (Or.inr (Or.inr (Or.inr (Or.inr (Or.inl (row_mem 5 inb_S8192x128_S512x128_5_0_s_16_1 spos_16_1 y hk)))))))))))
    · exact Or.inr (Or.inr (Or.inr (Or.inr (Or.inr (Or.inr (Or.inr (Or.inr (Or.inr (Or.inl (row_mem 6 inb_S8192x128_S512x128_6_0_s_16_1 spos_16_1 y hk))))))))))
    · exact Or.inr (Or.inr (Or.inr (Or.inr (Or.inr (Or.inr (Or.inr (Or.inr (Or.inl (row_mem 7 inb_S8192x128_S512x128_7_0_s_16_1 spos_16_1 y hk)))))))))
    · exact Or.inr (Or.inr (Or.inr (Or.inr (Or.inr (Or.inr (Or.inr (Or.inl (row_mem 8 inb_S8192x128_S512x128_8_0_s_16_1 spos_16_1 y hk))))))))
    · exact Or.inr (Or.inr (Or.inr (Or.inr (Or.inr (Or.inr (Or.inl (row_mem 9 inb_S8192x128_S512x128_9_0_s_16_1 spos_16_1 y hk)))))))
    · exact Or.inr (Or.inr (Or.inr (Or.inr (Or.inr (Or.inl (row_mem 10 inb_S8192x128_S512x128_10_0_s_16_1 spos_16_1 y hk))))))
    · exact Or.inr (Or.inr (Or.inr (Or.inr (Or.inl (row_mem 11 inb_S8192x128_S512x128_11_0_s_16_1 spos_16_1 y hk)))))
    · exact Or.inr (Or.inr (Or.inr (Or.inl (row_mem 12 inb_S8192x128_S512x128_12_0_s_16_1 spos_16_1 y hk))))
    · exact Or.inr (Or.inr (Or.inl (row_mem 13 inb_S8192x128_S512x128_13_0_s_16_1 spos_16_1 y hk)))
    · exact Or.inr (Or.inl (row_mem 14 inb_S8192x128_S512x128_14_0_s_16_1 spos_16_1 y hk))
    · exact Or.inl (row_mem 15 inb_S8192x128_S512x128_15_0_s_16_1 spos_16_1 y hk)

end Cert.ExpertsIdeal.Run

end
-- ==== Proof.ExpertsIdealFrame.lean ====
module

public import proofs.«01_k».proof.Proof.ExpertsIdealRun
public import Idealize.ShloMosaic.Lib.Pipeline.FrameSuffix
public import Idealize.ShloMosaic.Lib.Pipeline.TableIdle
public import Idealize.ShloMosaic.Lib.Pipeline.Quiescent
public import Idealize.ShloMosaic.Lib.Claim

@[expose] public section

set_option maxRecDepth 16384
set_option Elab.async false

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The conditions the body computes, as statements about the grid coordinates -/

theorem c5_iff (i : grid0.Coords) : k0_cond5 i = 1#1 ↔ (i 1).val = 3 := by
  have h : ∀ j : Fin 4, (Scalar.cmpi .ne (Scalar.extui (Scalar.cmpi .eq (BitVec.ofNat 32 j.val) 3#32) : BitVec 32) 0#32 = 1#1) ↔ j.val = 3 := by decide
  exact h (i 1)

theorem cZ_iff (i : grid0.Coords) : condZ i = 1#1 ↔ (i 1).val = 0 := by
  have h : ∀ j : Fin 4, (Scalar.cmpi .ne (Scalar.extui (Scalar.cmpi .eq (BitVec.ofNat 32 j.val) 0#32) : BitVec 32) 0#32 = 1#1) ↔ j.val = 0 := by decide
  exact h (i 1)

theorem cG_iff (i : grid0.Coords) : condG i = 1#1 ↔ (i 1).val ≠ 0 := by
  have h : ∀ j : Fin 4, (Scalar.cmpi .ne (Scalar.extui (Scalar.cmpi .sgt (BitVec.ofNat 32 j.val) 0#32) : BitVec 32) 0#32 = 1#1) ↔ j.val ≠ 0 := by decide
  exact h (i 1)

theorem c1_iff (i : grid0.Coords) (w : BitVec 32) : k0_cond1 i w = 1#1 ↔ (BitVec.ofNat 32 (i 0).val).slt w = true := by
  have h : ∀ b : Bool, (Scalar.cmpi .ne (Scalar.extui (BitVec.ofBool b) : BitVec 32) 0#32 = 1#1) ↔ b = true := by decide
  exact h _

theorem c6_iff (i : grid0.Coords) (w : BitVec 32) : k0_cond6 i w = 1#1 ↔ (¬k0_cond1 i w = 1#1) ∧ (i 1).val = 3 := by
  have h : ∀ (b : Bool) (j : Fin 4), (Scalar.cmpi .ne (Scalar.extui (Scalar.andi (BitVec.ofBool b) (Scalar.cmpi .eq (BitVec.ofNat 32 j.val) 3#32)) : BitVec 32) 0#32 = 1#1)
      ↔ b = true ∧ j.val = 3 := by decide
  rw [c1_iff]
  refine (h _ (i 1)).trans (and_congr_left fun _ => ?_)
  show w.sle (BitVec.ofNat 32 (i 0).val) = true ↔ _
  rw [BitVec.sle_eq_not_slt, Bool.not_eq_true', Bool.not_eq_true]

/-! ## The tables' words, and where the index maps point -/

/-- The number of blocks in use, and the expert of block `i`, as the index maps read them. -/
abbrev nu (pf : pre0.Contents (Elt F)) : BitVec 32 := pf.at 1 (Rect.unit (s := S1) ![0] S1.size inb_S1_S1_0) numel1_S1

theorem nuW_eq (pf : pre0.Contents (Elt F)) : nuW (pf 1) = nu pf := rfl

theorem atD_eq (pf : pre0.Contents (Elt F)) : pf.atD 1 ![0] = nu pf := by
  refine (dif_pos (show ∀ a, (![0] : Fin 1 → ℕ) a + 1 ≤ (![1] : Fin 1 → ℕ) a from by decide)).trans ?_
  exact congrArg (pf 1) (funext fun a => Fin.ext (by fin_cases a; rfl))

theorem ch_lt : ∀ (b : BitVec 1) (j : Fin 4), (Scalar.select b (BitVec.ofNat 32 j.val) 3#32).toNat < 4 := by decide
theorem ch4_lt : ∀ (b : BitVec 1) (j : Fin 4), (Scalar.addi 4#32 (Scalar.select b (BitVec.ofNat 32 j.val) 3#32)).toNat < 8 := by decide

theorem row_lt (w : BitVec 32) (i : Fin 288) : (Scalar.minsi (BitVec.ofNat 32 i.val) (Scalar.maxsi w 0#32)).toNat < 288 := by
  have hi := i.isLt
  show (if (BitVec.ofNat 32 i.val).slt (if (0#32).slt w then w else 0#32) then BitVec.ofNat 32 i.val else (if (0#32).slt w then w else 0#32)).toNat < 288
  have e : (BitVec.ofNat 32 i.val).toNat = i.val := by rw [BitVec.toNat_ofNat]; omega
  by_cases h2 : (0#32).slt w = true
  · rw [if_pos h2]
    by_cases h : (BitVec.ofNat 32 i.val).slt w = true
    · rw [if_pos h]; omega
    · rw [if_neg h]
      have hz : (0#32 : BitVec 32).toNat = 0 := rfl
      simp only [BitVec.slt, decide_eq_true_eq, BitVec.toInt_eq_toNat_cond, e, hz] at h h2
      have := w.isLt
      split at h <;> split at h <;> first | omega | (split at h2 <;> omega)
  · rw [if_neg h2]
    by_cases h : (BitVec.ofNat 32 i.val).slt 0#32 = true
    · rw [if_pos h]; omega
    · rw [if_neg h]; decide

/-- With every expert's number below 32 the tables are admissible: every block lies inside its array. -/
theorem ok_of (pf : pre0.Contents (Elt F)) (h : ∀ x : S288.Idx, (pf 0 x : BitVec 32).toNat < 32) : ok0 pf := by
  refine ⟨fun i => ⟨fun a => ?_, .inl rfl⟩, fun i => ⟨fun a => ?_, .inr (Affine.block_words_dvd (of_decide_eq_true rfl) (by decide))⟩,
    fun i => ⟨fun a => ?_, .inr (Affine.block_words_dvd (of_decide_eq_true rfl) (by decide))⟩, fun i => ⟨fun a => ?_, .inl rfl⟩, fun i => ⟨fun a => ?_, .inl rfl⟩,
    fun i => ⟨fun a => ?_, .inr (Affine.block_words_dvd (of_decide_eq_true rfl) (by decide))⟩, fun i => ⟨fun a => ?_, .inl rfl⟩⟩
  · fin_cases a
    · exact (fun w => by have := row_lt w (i 0); omega : ∀ w, ((Scalar.minsi (BitVec.ofNat 32 (i 0).val) (Scalar.maxsi w 0#32)).toNat + 1) * 8192 ≤ 2359296) _
    · show (0 + 1) * 128 ≤ 128; omega
  · fin_cases a
    · exact (fun x => by have := h x; omega : ∀ x : S288.Idx, ((pf 0 x : BitVec 32).toNat + 1) * 1 ≤ 32) _
    · show (0 + 1) * 2048 ≤ 2048; omega
    · show ((Scalar.select (Scalar.cmpi .slt (BitVec.ofNat 32 (i 0).val) (nu pf)) (BitVec.ofNat 32 (i 1).val) 3#32).toNat + 1) * 512 ≤ 4096
      have := ch_lt (Scalar.cmpi .slt (BitVec.ofNat 32 (i 0).val) (nu pf)) (i 1)
      omega
  · fin_cases a
    · exact (fun x => by have := h x; omega : ∀ x : S288.Idx, ((pf 0 x : BitVec 32).toNat + 1) * 1 ≤ 32) _
    · show (0 + 1) * 2048 ≤ 2048; omega
    · show ((Scalar.addi 4#32 (Scalar.select (Scalar.cmpi .slt (BitVec.ofNat 32 (i 0).val) (nu pf)) (BitVec.ofNat 32 (i 1).val) 3#32)).toNat + 1) * 512 ≤ 4096
      have := ch4_lt (Scalar.cmpi .slt (BitVec.ofNat 32 (i 0).val) (nu pf)) (i 1)
      omega
  · fin_cases a
    · exact (fun x => by have := h x; omega : ∀ x : S288.Idx, ((pf 0 x : BitVec 32).toNat + 1) * 1 ≤ 32) _
    · show (0 + 1) * 1 ≤ 1; omega
    · show ((Scalar.select (Scalar.cmpi .slt (BitVec.ofNat 32 (i 0).val) (nu pf)) (BitVec.ofNat 32 (i 1).val) 3#32).toNat + 1) * 512 ≤ 4096
      have := ch_lt (Scalar.cmpi .slt (BitVec.ofNat 32 (i 0).val) (nu pf)) (i 1)
      omega
  · fin_cases a
    · exact (fun x => by have := h x; omega : ∀ x : S288.Idx, ((pf 0 x : BitVec 32).toNat + 1) * 1 ≤ 32) _
    · show (0 + 1) * 1 ≤ 1; omega
    · show ((Scalar.addi 4#32 (Scalar.select (Scalar.cmpi .slt (BitVec.ofNat 32 (i 0).val) (nu pf)) (BitVec.ofNat 32 (i 1).val) 3#32)).toNat + 1) * 512 ≤ 4096
      have := ch4_lt (Scalar.cmpi .slt (BitVec.ofNat 32 (i 0).val) (nu pf)) (i 1)
      omega
  · fin_cases a
    · exact (fun x => by have := h x; omega : ∀ x : S288.Idx, ((pf 0 x : BitVec 32).toNat + 1) * 1 ≤ 32) _
    · show ((Scalar.select (Scalar.cmpi .slt (BitVec.ofNat 32 (i 0).val) (nu pf)) (BitVec.ofNat 32 (i 1).val) 3#32).toNat + 1) * 512 ≤ 2048
      have := ch_lt (Scalar.cmpi .slt (BitVec.ofNat 32 (i 0).val) (nu pf)) (i 1)
      omega
    · show (0 + 1) * 2048 ≤ 2048; omega
  · fin_cases a
    · exact (fun x => by have := h x; omega : ∀ x : S288.Idx, ((pf 0 x : BitVec 32).toNat + 1) * 1 ≤ 32) _
    · show (0 + 1) * 1 ≤ 1; omega
    · show (0 + 1) * 2048 ≤ 2048; omega

/-! ## The pipeline at admissible tables: coordinates, staging memrefs, blocks -/

theorem crd_val : ∀ t : Fin grid0.N, (grid0.coords t 0).val = t.val / 4 ∧ (grid0.coords t 1).val = t.val % 4 := by decide +kernel

variable (m : (ℓ : Loc nD τ sig) → Buf (Elt F) ℓ) (ρ : Dev nD → PrngReg) (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev crd (t : Fin (cfgA a).N) : (cfgA a).grid.Coords := (cfgA a).grid.coords t

theorem crd0 (t : Fin (cfgA a).N) : (crd a t 0).val = t.val / 4 := (crd_val t).1
theorem crd1 (t : Fin (cfgA a).N) : (crd a t 1).val = t.val % 4 := (crd_val t).2
abbrev ms0_0 (t : Fin (cfgA a).N) : Memref sig .tc .vmem S8192x128 .f32 := spec0_0.stage ((cfgA a).slots t (0 : Fin 8))
abbrev hs0_0 (t : Fin (cfgA a).N) : (ms0_0 a t).IsWhole := hstage0_0 (((cfgA a).slots t (0 : Fin 8)).cast nbuf0_0)
abbrev ms0_1 (t : Fin (cfgA a).N) : Memref sig .tc .vmem S1x2048x512 .bf16 := spec0_1.stage ((cfgA a).slots t (1 : Fin 8))
abbrev hs0_1 (t : Fin (cfgA a).N) : (ms0_1 a t).IsWhole := hstage0_1 (((cfgA a).slots t (1 : Fin 8)).cast nbuf0_1)
abbrev ms0_2 (t : Fin (cfgA a).N) : Memref sig .tc .vmem S1x2048x512 .bf16 := spec0_2.stage ((cfgA a).slots t (2 : Fin 8))
abbrev hs0_2 (t : Fin (cfgA a).N) : (ms0_2 a t).IsWhole := hstage0_2 (((cfgA a).slots t (2 : Fin 8)).cast nbuf0_2)
abbrev ms0_3 (t : Fin (cfgA a).N) : Memref sig .tc .vmem S1x1x512 .f32 := spec0_3.stage ((cfgA a).slots t (3 : Fin 8))
abbrev hs0_3 (t : Fin (cfgA a).N) : (ms0_3 a t).IsWhole := hstage0_3 (((cfgA a).slots t (3 : Fin 8)).cast nbuf0_3)
abbrev ms0_4 (t : Fin (cfgA a).N) : Memref sig .tc .vmem S1x1x512 .f32 := spec0_4.stage ((cfgA a).slots t (4 : Fin 8))
abbrev hs0_4 (t : Fin (cfgA a).N) : (ms0_4 a t).IsWhole := hstage0_4 (((cfgA a).slots t (4 : Fin 8)).cast nbuf0_4)
abbrev ms0_5 (t : Fin (cfgA a).N) : Memref sig .tc .vmem S1x512x2048 .bf16 := spec0_5.stage ((cfgA a).slots t (5 : Fin 8))
abbrev hs0_5 (t : Fin (cfgA a).N) : (ms0_5 a t).IsWhole := hstage0_5 (((cfgA a).slots t (5 : Fin 8)).cast nbuf0_5)
abbrev ms0_6 (t : Fin (cfgA a).N) : Memref sig .tc .vmem S1x1x2048 .f32 := spec0_6.stage ((cfgA a).slots t (6 : Fin 8))
abbrev hs0_6 (t : Fin (cfgA a).N) : (ms0_6 a t).IsWhole := hstage0_6 (((cfgA a).slots t (6 : Fin 8)).cast nbuf0_6)
abbrev ms0_7 (t : Fin (cfgA a).N) : Memref sig .tc .vmem S8192x128 .f32 := spec0_7.stage ((cfgA a).slots t (7 : Fin 8))
abbrev hs0_7 (t : Fin (cfgA a).N) : (ms0_7 a t).IsWhole := hstage0_7 (((cfgA a).slots t (7 : Fin 8)).cast nbuf0_7)

theorem flush7_of : ∀ t : Fin grid0.N, Window.flushOf grid0 true cc0_transform_7 t = decide (t.val % 4 = 3) := by decide +kernel
theorem flush7 (t : Fin (cfgA a).N) : ((cfgA a).win (7 : Fin 8)).flush t = decide (t.val % 4 = 3) :=
  (Window.flush_eq_flushOf _ t).trans (flush7_of t)

/-- Whether the point's block is in use. -/
abbrev Used (t : Fin (cfgA a).N) : Prop := k0_cond1 (crd a t) (nuW (a.1 1)) = 1#1

theorem idle7 (t : Fin (cfgA a).N) : (cfgA a).idle (7 : Fin 8) ((cfgA a).grid.coords t) = !(decide (t.val % 4 = 3)) := by
  show (!(k0_cond1 (crd a t) (a.1.atD 1 ![0]) == 1#1 && k0_cond5 (crd a t) == 1#1) && !(k0_cond6 (crd a t) (a.1.atD 1 ![0]) == 1#1)) = _
  rw [atD_eq]
  have h5 := c5_iff (crd a t); have h6 := c6_iff (crd a t) (nu a.1)
  rw [crd1] at h5 h6
  by_cases h3 : t.val % 4 = 3
  · by_cases hu : k0_cond1 (crd a t) (nu a.1) = 1#1
    · simp [h3, hu, h5.2 h3]
    · simp [h3, h6.2 ⟨hu, h3⟩]
  · have n5 : k0_cond5 (crd a t) ≠ 1#1 := fun e => h3 (h5.1 e)
    have n6 : k0_cond6 (crd a t) (nu a.1) ≠ 1#1 := fun e => h3 (h6.1 e).2
    simp [h3, n5, n6]

/-- Core `c`'s buffers when the region is entered: after the host operations. -/
abbrev V₀ (c : Dev nD) : Valuation τ sig (Elt F) := StableHlo.after [hostOps0].flatten (fun b => m (c, b))

/-- Window `w`'s block at point `t`, read off its array as the region finds it. -/
def iblk (c : Dev nD) (w : Fin (cfgA a).W) (t : Fin (cfgA a).N) : (((cfgA a).win w).xblock (crd a t)).Idx → Elt F ((cfgA a).win w).elt :=
  (((cfgA a).win w).blk t).view.read (Elt F) (V₀ m c (Proc.devRef .tc (Pipeline.arrRef (cfgA a).spec w)))

/-- The first point of the point's block. -/
def hd (t : Fin (cfgA a).N) : Fin (cfgA a).N := ⟨t.val - t.val % 4, lt_of_le_of_lt (Nat.sub_le _ _) t.isLt⟩

/-- The block's packed rows. -/
def xb (c : Dev nD) (t : Fin (cfgA a).N) : S512x2048.Idx → Elt F .bf16 := XB (iblk m a c (0 : Fin 8) (hd a t))

/-- What the accumulator holds after point `n` of a block in use. -/
def acc (c : Dev nD) : (n : ℕ) → n < (cfgA a).N → S512x2048.Idx → Elt F .f32
  | 0, h => let t : Fin (cfgA a).N := ⟨0, h⟩
    part0 (xb m a c t) (iblk m a c (1 : Fin 8) t) (iblk m a c (2 : Fin 8) t) (iblk m a c (3 : Fin 8) t) (iblk m a c (4 : Fin 8) t) (iblk m a c (5 : Fin 8) t)
  | n + 1, h => let t : Fin (cfgA a).N := ⟨n + 1, h⟩
    if (n + 1) % 4 = 0 then part0 (xb m a c t) (iblk m a c (1 : Fin 8) t) (iblk m a c (2 : Fin 8) t) (iblk m a c (3 : Fin 8) t) (iblk m a c (4 : Fin 8) t) (iblk m a c (5 : Fin 8) t)
    else partS (acc c n (Nat.lt_of_succ_lt h)) (xb m a c t) (iblk m a c (1 : Fin 8) t) (iblk m a c (2 : Fin 8) t) (iblk m a c (3 : Fin 8) t) (iblk m a c (4 : Fin 8) t) (iblk m a c (5 : Fin 8) t)

theorem acc_start (c : Dev nD) (t : Fin (cfgA a).N) (h : t.val % 4 = 0) :
    acc m a c t.val t.isLt = part0 (xb m a c t) (iblk m a c (1 : Fin 8) t) (iblk m a c (2 : Fin 8) t) (iblk m a c (3 : Fin 8) t) (iblk m a c (4 : Fin 8) t) (iblk m a c (5 : Fin 8) t) := by
  obtain ⟨n, hn⟩ := t
  cases n with
  | zero => rfl
  | succ n => exact if_pos h

theorem acc_step (c : Dev nD) (t : Fin (cfgA a).N) (h : t.val % 4 ≠ 0) :
    acc m a c t.val t.isLt = partS (acc m a c (t.val - 1) (lt_of_le_of_lt (Nat.sub_le _ _) t.isLt)) (xb m a c t) (iblk m a c (1 : Fin 8) t) (iblk m a c (2 : Fin 8) t) (iblk m a c (3 : Fin 8) t) (iblk m a c (4 : Fin 8) t) (iblk m a c (5 : Fin 8) t) := by
  obtain ⟨n, hn⟩ := t
  cases n with
  | zero => exact absurd rfl h
  | succ n => exact if_neg h

theorem hd_start (t : Fin (cfgA a).N) (h : t.val % 4 = 0) : hd a t = t := Fin.ext (by unfold hd; show t.val - t.val % 4 = t.val; omega)

theorem xb_prev (c : Dev nD) (t : Fin (cfgA a).N) (h : t.val % 4 ≠ 0) :
    xb m a c ⟨t.val - 1, lt_of_le_of_lt (Nat.sub_le _ _) t.isLt⟩ = xb m a c t := by
  unfold xb
  rw [show hd a ⟨t.val - 1, lt_of_le_of_lt (Nat.sub_le _ _) t.isLt⟩ = hd a t from Fin.ext (by
    unfold hd; show t.val - 1 - (t.val - 1) % 4 = t.val - t.val % 4; omega)]

theorem used_prev (t : Fin (cfgA a).N) (h : t.val % 4 ≠ 0) (hu : Used a t) : Used a ⟨t.val - 1, lt_of_le_of_lt (Nat.sub_le _ _) t.isLt⟩ := by
  unfold Used at hu ⊢
  rw [c1_iff] at hu ⊢
  rw [crd0] at hu ⊢
  rwa [show (t.val - 1) / 4 = t.val / 4 from by omega]

/-- What the stored block is at a point that stores it. -/
def outv (c : Dev nD) (t : Fin (cfgA a).N) : S8192x128.Idx → Elt F .f32 :=
  open Classical in if Used a t then OUT (acc m a c t.val t.isLt) (iblk m a c (6 : Fin 8) t) else (k0_pay10 : FVec F S8192x128 .f32)

/-- What is known of the two scratches before position `n`: inside a block in use, they hold its packed rows and its running sum. -/
def Inv (c : Dev nD) (n : ℕ) (a0 : Buf (Elt F) ((c : Thread nD τ).loc cc0_scratch0)) (a1 : Buf (Elt F) ((c : Thread nD τ).loc cc0_scratch1)) : Prop :=
  ∀ (h4 : n % 4 ≠ 0) (hn : n - 1 < (cfgA a).N), Used a ⟨n - 1, hn⟩ → sc0.view.read (Elt F) a0 = xb m a c ⟨n - 1, hn⟩ ∧ sc1.view.read (Elt F) a1 = acc m a c (n - 1) hn

theorem inv_back (c : Dev nD) (t : Fin (cfgA a).N) (h : t.val % 4 ≠ 0) (hu : Used a t) (a0) (a1) (hi : Inv m a c t.val a0 a1) :
    sc0.view.read (Elt F) a0 = xb m a c t ∧ sc1.view.read (Elt F) a1 = acc m a c (t.val - 1) (lt_of_le_of_lt (Nat.sub_le _ _) t.isLt) := by
  have := hi h (lt_of_le_of_lt (Nat.sub_le _ _) t.isLt) (used_prev a t h hu)
  rwa [xb_prev m a c t h] at this

theorem inv_next (c : Dev nD) (t : Fin (cfgA a).N) (a0) (a1)
    (h : Used a t → sc0.view.read (Elt F) a0 = xb m a c t ∧ sc1.view.read (Elt F) a1 = acc m a c t.val t.isLt) : Inv m a c (t.val + 1) a0 a1 :=
  fun _ _ hu => h hu

/-- What the pipeline keeps from point to point beside its windows: the scratches, the tables, the register. -/
def Phi (c : Dev nD) (n : ℕ) : sProp 𝕄 :=
  iprop((∃ a0 a1, ⌜Inv m a c n a0 a1⌝ ∗ (sc0.view.loc (c : Thread nD τ) ↦{fullShare} a0) ∗ (sc1.view.loc (c : Thread nD τ) ↦{fullShare} a1))
    ∗ (∃ r, prngReg c r) ∗ (tb0.view.loc (c : Thread nD τ) ↦{fullShare.right} a.1 0) ∗ (tb1.view.loc (c : Thread nD τ) ↦{fullShare.right} a.1 1))

/-- The proof data of the one pipeline on core `c`. -/
def dats (_ : Fin 1) (c : Dev nD) : Dat τ (Elt F) Unit ℕ (UR sig nD τ) ℕ (cfgA a) c where
  A w := V₀ m c (Proc.devRef .tc (Pipeline.arrRef (cfgA a).spec w))
  after w t := match w with
    | ⟨0, _⟩ => iblk m a c (0 : Fin 8) t
    | ⟨1, _⟩ => iblk m a c (1 : Fin 8) t
    | ⟨2, _⟩ => iblk m a c (2 : Fin 8) t
    | ⟨3, _⟩ => iblk m a c (3 : Fin 8) t
    | ⟨4, _⟩ => iblk m a c (4 : Fin 8) t
    | ⟨5, _⟩ => iblk m a c (5 : Fin 8) t
    | ⟨6, _⟩ => iblk m a c (6 : Fin 8) t
    | ⟨7, _⟩ => outv m a c t
  Φ t := Phi m a c t.val
  q w := Pipeline.shareOf (cfgA a).spec w
  owed _ := 0

theorem after0_0 (c : Dev nD) (t : Fin (cfgA a).N) : (dats m a 0 c).after (0 : Fin 8) t = iblk m a c (0 : Fin 8) t := rfl
theorem after0_1 (c : Dev nD) (t : Fin (cfgA a).N) : (dats m a 0 c).after (1 : Fin 8) t = iblk m a c (1 : Fin 8) t := rfl
theorem after0_2 (c : Dev nD) (t : Fin (cfgA a).N) : (dats m a 0 c).after (2 : Fin 8) t = iblk m a c (2 : Fin 8) t := rfl
theorem after0_3 (c : Dev nD) (t : Fin (cfgA a).N) : (dats m a 0 c).after (3 : Fin 8) t = iblk m a c (3 : Fin 8) t := rfl
theorem after0_4 (c : Dev nD) (t : Fin (cfgA a).N) : (dats m a 0 c).after (4 : Fin 8) t = iblk m a c (4 : Fin 8) t := rfl
theorem after0_5 (c : Dev nD) (t : Fin (cfgA a).N) : (dats m a 0 c).after (5 : Fin 8) t = iblk m a c (5 : Fin 8) t := rfl
theorem after0_6 (c : Dev nD) (t : Fin (cfgA a).N) : (dats m a 0 c).after (6 : Fin 8) t = iblk m a c (6 : Fin 8) t := rfl
theorem after0_7 (c : Dev nD) (t : Fin (cfgA a).N) : (dats m a 0 c).after (7 : Fin 8) t = outv m a c t := rfl
theorem before0_0 (c : Dev nD) (t : Fin (cfgA a).N) (d) : (dats m a 0 c).before (0 : Fin 8) t d = iblk m a c (0 : Fin 8) t :=
  ((dats m a 0 c).before_in_eq_fetched (0 : Fin 8) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats m a 0 c).before (1 : Fin 8) t d = iblk m a c (1 : Fin 8) t :=
  ((dats m a 0 c).before_in_eq_fetched (1 : Fin 8) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats m a 0 c).before (2 : Fin 8) t d = iblk m a c (2 : Fin 8) t :=
  ((dats m a 0 c).before_in_eq_fetched (2 : Fin 8) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats m a 0 c).before (3 : Fin 8) t d = iblk m a c (3 : Fin 8) t :=
  ((dats m a 0 c).before_in_eq_fetched (3 : Fin 8) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA a).N) (d) : (dats m a 0 c).before (4 : Fin 8) t d = iblk m a c (4 : Fin 8) t :=
  ((dats m a 0 c).before_in_eq_fetched (4 : Fin 8) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA a).N) (d) : (dats m a 0 c).before (5 : Fin 8) t d = iblk m a c (5 : Fin 8) t :=
  ((dats m a 0 c).before_in_eq_fetched (5 : Fin 8) rfl (fun _ => rfl) (fun _ _ _ => rfl) (fun t => by rw [after0_5]; unfold Dat.blockOf iblk; rfl) t d).trans
    (by unfold Dat.fetched Dat.blockOf iblk; rfl)
theorem before0_6 (c : Dev nD) (t : Fin (cfgA a).N) (d) : (dats m a 0 c).before (6 : Fin 8) t d = iblk m a c (6 : Fin 8) t :=
  ((dats m a 0 c).before_in_eq_fetched (6 : Fin 8) rfl (fun _ => rfl) (fun _ _ _ => rfl) (fun t => by rw [after0_6]; unfold Dat.blockOf iblk; rfl) t d).trans
    (by unfold Dat.fetched Dat.blockOf iblk; rfl)

theorem runB_1  (c : Dev nD) (i : grid0.Coords) (arg4 : Memref sig .tc .vmem S8192x128 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S8192x128 .f32) (harg11 : arg11.IsWhole)
  (T0 : S288.Idx → Elt F .i32) (T1 : S1.Idx → Elt F .i32) (x0 : S8192x128.Idx → Elt F .f32) (x1 : S1x2048x512.Idx → Elt F .bf16) (x2 : S1x2048x512.Idx → Elt F .bf16) (x3 : S1x1x512.Idx → Elt F .f32) (x4 : S1x1x512.Idx → Elt F .f32) (x5 : S1x512x2048.Idx → Elt F .bf16) (x6 : S1x1x2048.Idx → Elt F .f32)
  (xa0 : Buf (Elt F) ((c : Thread nD τ).loc cc0_scratch0)) (xa1 : Buf (Elt F) ((c : Thread nD τ).loc cc0_scratch1)) (h1) (h2) (v : View sig .tc .vmem S8192x128 .f32) (f : v.ty.Contents (Elt F)) :
    v.read (Elt F) (v.writes (Elt F) f (runB (F := F) c i arg4 harg4 arg5 harg5 arg6 harg6 arg7 harg7 arg8 harg8 arg9 harg9 arg10 harg10 arg11 harg11 T0 T1 x0 x1 x2 x3 x4 x5 x6 xa0 xa1 h1 h2).1) = (k0_pay10 : FVec F S8192x128 .f32) := by
  unfold runB
  exact read_whole _ _ _ _ _

/-! ## The body at a point -/

/-- The body at point `t` on its staging memrefs, as the pipeline calls it. -/
abbrev bodyAt0 (t : Fin (cfgA a).N) : Prog (TpuEff nD τ sig (Elt F) Λ₀ .tc) PUnit :=
  cc0_experts (crd a t) (Memref.whole main_v16) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _)

set_option maxHeartbeats 4000000 in
theorem sound_A (c : Dev nD) (t : Fin (cfgA a).N) (hU : ¬Used a t) (h3 : t.val % 4 ≠ 3) :
    iprop((dats m a 0 c).Φ t.castSucc ∗ (dats m a 0 c).owesAt () t.castSucc
        ∗ (∃ d, owns (c : Thread nD τ) (ms0_0 a t) fullShare ((dats m a 0 c).before (0 : Fin 8) t d))
        ∗ (∃ d, owns (c : Thread nD τ) (ms0_1 a t) fullShare ((dats m a 0 c).before (1 : Fin 8) t d))
        ∗ (∃ d, owns (c : Thread nD τ) (ms0_2 a t) fullShare ((dats m a 0 c).before (2 : Fin 8) t d))
        ∗ (∃ d, owns (c : Thread nD τ) (ms0_3 a t) fullShare ((dats m a 0 c).before (3 : Fin 8) t d))
        ∗ (∃ d, owns (c : Thread nD τ) (ms0_4 a t) fullShare ((dats m a 0 c).before (4 : Fin 8) t d))
        ∗ (∃ d, owns (c : Thread nD τ) (ms0_5 a t) fullShare ((dats m a 0 c).before (5 : Fin 8) t d))
        ∗ (∃ d, owns (c : Thread nD τ) (ms0_6 a t) fullShare ((dats m a 0 c).before (6 : Fin 8) t d))
        ∗ (∃ d, owns (c : Thread nD τ) (ms0_7 a t) fullShare ((dats m a 0 c).before (7 : Fin 8) t d)))
      ⊢ wp frame (wpE (defs₀ (F := F)) Variants.none c none) Set.univ (bodyAt0 a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  have I7 : (cfgA a).idle (7 : Fin 8) ((cfgA a).grid.coords t) = true := by rw [idle7]; simp; try omega
  have F7 : ((cfgA a).win (7 : Fin 8)).flush t = false := by rw [flush7]; simp; try omega
  rewrite [I7]
  simp only [before0_0, before0_1, before0_2, before0_3, before0_4, before0_5, before0_6, after0_0, after0_1, after0_2, after0_3, after0_4, after0_5, after0_6, after0_7, F7]
  rewrite [show (dats m a 0 c).Φ t.succ = Phi m a c (t.val + 1) from rfl, show (dats m a 0 c).Φ t.castSucc = Phi m a c t.val from rfl,
    show (dats m a 0 c).owesAt () t.succ = (dats m a 0 c).owesAt () t.castSucc from rfl]
  unfold Phi
  iintro ⟨⟨⟨%a0, %a1, %hi, HS0, HS1⟩, HP, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 hU (fun e => h3 (((c6_iff _ _).1 e).2 ▸ (crd1 a t).symm))).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  iintro ⟨H0, H1, H2, H3, H4, H5, H6, HT0, HT1, H7, HS0, HS1⟩
  isplitl [HS0 HS1 HP HT0 HT1]
  · isplitl [HS0 HS1]
    · iexists _, _; isplitr; swap
      · isplitl [HS0]; · iexact HS0
        iexact HS1
      · ipureintro; exact inv_next m a c t _ _ fun hu => absurd hu hU
    isplitl [HP]; · iexact HP
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 4000000 in
theorem sound_B (c : Dev nD) (t : Fin (cfgA a).N) (hU : ¬Used a t) (h3 : t.val % 4 = 3) :
    iprop((dats m a 0 c).Φ t.castSucc ∗ (dats m a 0 c).owesAt () t.castSucc
        ∗ (∃ d, owns (c : Thread nD τ) (ms0_0 a t) fullShare ((dats m a 0 c).before (0 : Fin 8) t d))
        ∗ (∃ d, owns (c : Thread nD τ) (ms0_1 a t) fullShare ((dats m a 0 c).before (1 : Fin 8) t d))
        ∗ (∃ d, owns (c : Thread nD τ) (ms0_2 a t) fullShare ((dats m a 0 c).before (2 : Fin 8) t d))
        ∗ (∃ d, owns (c : Thread nD τ) (ms0_3 a t) fullShare ((dats m a 0 c).before (3 : Fin 8) t d))
        ∗ (∃ d, owns (c : Thread nD τ) (ms0_4 a t) fullShare ((dats m a 0 c).before (4 : Fin 8) t d))
        ∗ (∃ d, owns (c : Thread nD τ) (ms0_5 a t) fullShare ((dats m a 0 c).before (5 : Fin 8) t d))
        ∗ (∃ d, owns (c : Thread nD τ) (ms0_6 a t) fullShare ((dats m a 0 c).before (6 : Fin 8) t d))
        ∗ (∃ d, owns (c : Thread nD τ) (ms0_7 a t) fullShare ((dats m a 0 c).before (7 : Fin 8) t d)))
      ⊢ wp frame (wpE (defs₀ (F := F)) Variants.none c none) Set.univ (bodyAt0 a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  have I7 : (cfgA a).idle (7 : Fin 8) ((cfgA a).grid.coords t) = false := by rw [idle7]; simp; try omega
  have F7 : ((cfgA a).win (7 : Fin 8)).flush t = true := by rw [flush7]; simp; try omega
  rewrite [I7]
  simp only [before0_0, before0_1, before0_2, before0_3, before0_4, before0_5, before0_6, after0_0, after0_1, after0_2, after0_3, after0_4, after0_5, after0_6, after0_7, F7]
  rewrite [show (dats m a 0 c).Φ t.succ = Phi m a c (t.val + 1) from rfl, show (dats m a 0 c).Φ t.castSucc = Phi m a c t.val from rfl,
    show (dats m a 0 c).owesAt () t.succ = (dats m a 0 c).owesAt () t.castSucc from rfl]
  unfold Phi
  iintro ⟨⟨⟨%a0, %a1, %hi, HS0, HS1⟩, HP, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 hU ((c6_iff _ _).2 ⟨hU, (crd1 a t).trans h3⟩)).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  iintro ⟨H0, H1, H2, H3, H4, H5, H6, HT0, HT1, ⟨%e7, H7⟩, HS0, HS1⟩
  isplitl [HS0 HS1 HP HT0 HT1]
  · isplitl [HS0 HS1]
    · iexists _, _; isplitr; swap
      · isplitl [HS0]; · iexact HS0
        iexact HS1
      · ipureintro; exact inv_next m a c t _ _ fun hu => absurd hu hU
    isplitl [HP]; · iexact HP
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro; exact (runB_1 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 _ _ _ _).trans (by unfold outv; exact (if_neg hU).symm)

set_option maxHeartbeats 4000000 in
theorem sound_C (c : Dev nD) (t : Fin (cfgA a).N) (hU : Used a t) (h0 : t.val % 4 = 0) :
    iprop((dats m a 0 c).Φ t.castSucc ∗ (dats m a 0 c).owesAt () t.castSucc
        ∗ (∃ d, owns (c : Thread nD τ) (ms0_0 a t) fullShare ((dats m a 0 c).before (0 : Fin 8) t d))
        ∗ (∃ d, owns (c : Thread nD τ) (ms0_1 a t) fullShare ((dats m a 0 c).before (1 : Fin 8) t d))
        ∗ (∃ d, owns (c : Thread nD τ) (ms0_2 a t) fullShare ((dats m a 0 c).before (2 : Fin 8) t d))
        ∗ (∃ d, owns (c : Thread nD τ) (ms0_3 a t) fullShare ((dats m a 0 c).before (3 : Fin 8) t d))
        ∗ (∃ d, owns (c : Thread nD τ) (ms0_4 a t) fullShare ((dats m a 0 c).before (4 : Fin 8) t d))
        ∗ (∃ d, owns (c : Thread nD τ) (ms0_5 a t) fullShare ((dats m a 0 c).before (5 : Fin 8) t d))
        ∗ (∃ d, owns (c : Thread nD τ) (ms0_6 a t) fullShare ((dats m a 0 c).before (6 : Fin 8) t d))
        ∗ (∃ d, owns (c : Thread nD τ) (ms0_7 a t) fullShare ((dats m a 0 c).before (7 : Fin 8) t d)))
      ⊢ wp frame (wpE (defs₀ (F := F)) Variants.none c none) Set.univ (bodyAt0 a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  have I7 : (cfgA a).idle (7 : Fin 8) ((cfgA a).grid.coords t) = true := by rw [idle7]; simp; try omega
  have F7 : ((cfgA a).win (7 : Fin 8)).flush t = false := by rw [flush7]; simp; try omega
  rewrite [I7]
  simp only [before0_0, before0_1, before0_2, before0_3, before0_4, before0_5, before0_6, after0_0, after0_1, after0_2, after0_3, after0_4, after0_5, after0_6, after0_7, F7]
  rewrite [show (dats m a 0 c).Φ t.succ = Phi m a c (t.val + 1) from rfl, show (dats m a 0 c).Φ t.castSucc = Phi m a c t.val from rfl,
    show (dats m a 0 c).owesAt () t.succ = (dats m a 0 c).owesAt () t.castSucc from rfl]
  unfold Phi
  iintro ⟨⟨⟨%a0, %a1, %hi, HS0, HS1⟩, HP, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 hU ((cZ_iff _).2 ((crd1 a t).trans h0)) (fun e => (cG_iff _).1 e ((crd1 a t).trans h0)) (fun e => by have := ((c5_iff _).1 e).symm.trans (crd1 a t); omega) (fun e => ((c6_iff _ _).1 e).1 hU)).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  iintro ⟨H0, H1, H2, H3, H4, H5, H6, HT0, HT1, H7, HS0, HS1⟩
  isplitl [HS0 HS1 HP HT0 HT1]
  · isplitl [HS0 HS1]
    · iexists _, _; isplitr; swap
      · isplitl [HS0]; · iexact HS0
        iexact HS1
      · ipureintro; exact inv_next m a c t _ _ fun _ => ⟨(runC_0 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 _ _ _ _ _).trans (by unfold xb; rw [hd_start a t h0]), (runC_1 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 _ _ _ _ _).trans (by rw [acc_start m a c t h0]; unfold xb; rw [hd_start a t h0])⟩
    isplitl [HP]; · iexact HP
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 4000000 in
theorem sound_D (c : Dev nD) (t : Fin (cfgA a).N) (hU : Used a t) (h0 : t.val % 4 ≠ 0) (h3 : t.val % 4 ≠ 3) :
    iprop((dats m a 0 c).Φ t.castSucc ∗ (dats m a 0 c).owesAt () t.castSucc
        ∗ (∃ d, owns (c : Thread nD τ) (ms0_0 a t) fullShare ((dats m a 0 c).before (0 : Fin 8) t d))
        ∗ (∃ d, owns (c : Thread nD τ) (ms0_1 a t) fullShare ((dats m a 0 c).before (1 : Fin 8) t d))
        ∗ (∃ d, owns (c : Thread nD τ) (ms0_2 a t) fullShare ((dats m a 0 c).before (2 : Fin 8) t d))
        ∗ (∃ d, owns (c : Thread nD τ) (ms0_3 a t) fullShare ((dats m a 0 c).before (3 : Fin 8) t d))
        ∗ (∃ d, owns (c : Thread nD τ) (ms0_4 a t) fullShare ((dats m a 0 c).before (4 : Fin 8) t d))
        ∗ (∃ d, owns (c : Thread nD τ) (ms0_5 a t) fullShare ((dats m a 0 c).before (5 : Fin 8) t d))
        ∗ (∃ d, owns (c : Thread nD τ) (ms0_6 a t) fullShare ((dats m a 0 c).before (6 : Fin 8) t d))
        ∗ (∃ d, owns (c : Thread nD τ) (ms0_7 a t) fullShare ((dats m a 0 c).before (7 : Fin 8) t d)))
      ⊢ wp frame (wpE (defs₀ (F := F)) Variants.none c none) Set.univ (bodyAt0 a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  have I7 : (cfgA a).idle (7 : Fin 8) ((cfgA a).grid.coords t) = true := by rw [idle7]; simp; try omega
  have F7 : ((cfgA a).win (7 : Fin 8)).flush t = false := by rw [flush7]; simp; try omega
  rewrite [I7]
  simp only [before0_0, before0_1, before0_2, before0_3, before0_4, before0_5, before0_6, after0_0, after0_1, after0_2, after0_3, after0_4, after0_5, after0_6, after0_7, F7]
  rewrite [show (dats m a 0 c).Φ t.succ = Phi m a c (t.val + 1) from rfl, show (dats m a 0 c).Φ t.castSucc = Phi m a c t.val from rfl,
    show (dats m a 0 c).owesAt () t.succ = (dats m a 0 c).owesAt () t.castSucc from rfl]
  unfold Phi
  iintro ⟨⟨⟨%a0, %a1, %hi, HS0, HS1⟩, HP, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 hU (fun e => h0 ((crd1 a t).symm.trans ((cZ_iff _).1 e))) ((cG_iff _).2 (fun e => h0 ((crd1 a t).symm.trans e))) (fun e => h3 ((crd1 a t).symm.trans ((c5_iff _).1 e))) (fun e => ((c6_iff _ _).1 e).1 hU)).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  iintro ⟨H0, H1, H2, H3, H4, H5, H6, HT0, HT1, H7, HS0, HS1⟩
  isplitl [HS0 HS1 HP HT0 HT1]
  · isplitl [HS0 HS1]
    · iexists _, _; isplitr; swap
      · isplitl [HS0]; · iexact HS0
        iexact HS1
      · ipureintro; exact inv_next m a c t _ _ fun _ => ⟨(congrArg (sc0.view.read (Elt F)) (runD_0 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 _ _ _ _ _)).trans (inv_back m a c t h0 hU _ _ hi).1, (runD_1 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 _ _ _ _ _).trans (by rw [(inv_back m a c t h0 hU _ _ hi).1, (inv_back m a c t h0 hU _ _ hi).2, acc_step m a c t h0])⟩
    isplitl [HP]; · iexact HP
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 4000000 in
theorem sound_E (c : Dev nD) (t : Fin (cfgA a).N) (hU : Used a t) (h3 : t.val % 4 = 3) :
    iprop((dats m a 0 c).Φ t.castSucc ∗ (dats m a 0 c).owesAt () t.castSucc
        ∗ (∃ d, owns (c : Thread nD τ) (ms0_0 a t) fullShare ((dats m a 0 c).before (0 : Fin 8) t d))
        ∗ (∃ d, owns (c : Thread nD τ) (ms0_1 a t) fullShare ((dats m a 0 c).before (1 : Fin 8) t d))
        ∗ (∃ d, owns (c : Thread nD τ) (ms0_2 a t) fullShare ((dats m a 0 c).before (2 : Fin 8) t d))
        ∗ (∃ d, owns (c : Thread nD τ) (ms0_3 a t) fullShare ((dats m a 0 c).before (3 : Fin 8) t d))
        ∗ (∃ d, owns (c : Thread nD τ) (ms0_4 a t) fullShare ((dats m a 0 c).before (4 : Fin 8) t d))
        ∗ (∃ d, owns (c : Thread nD τ) (ms0_5 a t) fullShare ((dats m a 0 c).before (5 : Fin 8) t d))
        ∗ (∃ d, owns (c : Thread nD τ) (ms0_6 a t) fullShare ((dats m a 0 c).before (6 : Fin 8) t d))
        ∗ (∃ d, owns (c : Thread nD τ) (ms0_7 a t) fullShare ((dats m a 0 c).before (7 : Fin 8) t d)))
      ⊢ wp frame (wpE (defs₀ (F := F)) Variants.none c none) Set.univ (bodyAt0 a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  have I7 : (cfgA a).idle (7 : Fin 8) ((cfgA a).grid.coords t) = false := by rw [idle7]; simp; try omega
  have F7 : ((cfgA a).win (7 : Fin 8)).flush t = true := by rw [flush7]; simp; try omega
  rewrite [I7]
  simp only [before0_0, before0_1, before0_2, before0_3, before0_4, before0_5, before0_6, after0_0, after0_1, after0_2, after0_3, after0_4, after0_5, after0_6, after0_7, F7]
  rewrite [show (dats m a 0 c).Φ t.succ = Phi m a c (t.val + 1) from rfl, show (dats m a 0 c).Φ t.castSucc = Phi m a c t.val from rfl,
    show (dats m a 0 c).owesAt () t.succ = (dats m a 0 c).owesAt () t.castSucc from rfl]
  unfold Phi
  iintro ⟨⟨⟨%a0, %a1, %hi, HS0, HS1⟩, HP, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runE c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 hU (fun e => by have := ((cZ_iff _).1 e).symm.trans (crd1 a t); omega) ((cG_iff _).2 (fun e => by have := e.symm.trans (crd1 a t); omega)) ((c5_iff _).2 ((crd1 a t).trans h3)) (fun e => ((c6_iff _ _).1 e).1 hU)).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  iintro ⟨H0, H1, H2, H3, H4, H5, H6, HT0, HT1, ⟨%e7, H7⟩, HS0, HS1⟩
  isplitl [HS0 HS1 HP HT0 HT1]
  · isplitl [HS0 HS1]
    · iexists _, _; isplitr; swap
      · isplitl [HS0]; · iexact HS0
        iexact HS1
      · ipureintro; exact fun h4 _ _ => absurd (show (t.val + 1) % 4 = 0 by omega) h4
    isplitl [HP]; · iexact HP
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro; exact (runE_1 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) a0 a1 _ _ _ _ _ _ _).trans (by rw [(inv_back m a c t (by omega) hU _ _ hi).1, (inv_back m a c t (by omega) hU _ _ hi).2]; unfold outv; rw [if_pos hU, acc_step m a c t (by omega)])

theorem sound_body (c : Dev nD) (t : Fin (cfgA a).N) :
    iprop((dats m a 0 c).Φ t.castSucc ∗ (dats m a 0 c).owesAt () t.castSucc
        ∗ (∃ d, owns (c : Thread nD τ) (ms0_0 a t) fullShare ((dats m a 0 c).before (0 : Fin 8) t d))
        ∗ (∃ d, owns (c : Thread nD τ) (ms0_1 a t) fullShare ((dats m a 0 c).before (1 : Fin 8) t d))
        ∗ (∃ d, owns (c : Thread nD τ) (ms0_2 a t) fullShare ((dats m a 0 c).before (2 : Fin 8) t d))
        ∗ (∃ d, owns (c : Thread nD τ) (ms0_3 a t) fullShare ((dats m a 0 c).before (3 : Fin 8) t d))
        ∗ (∃ d, owns (c : Thread nD τ) (ms0_4 a t) fullShare ((dats m a 0 c).before (4 : Fin 8) t d))
        ∗ (∃ d, owns (c : Thread nD τ) (ms0_5 a t) fullShare ((dats m a 0 c).before (5 : Fin 8) t d))
        ∗ (∃ d, owns (c : Thread nD τ) (ms0_6 a t) fullShare ((dats m a 0 c).before (6 : Fin 8) t d))
        ∗ (∃ d, owns (c : Thread nD τ) (ms0_7 a t) fullShare ((dats m a 0 c).before (7 : Fin 8) t d)))
      ⊢ wp frame (wpE (defs₀ (F := F)) Variants.none c none) Set.univ (bodyAt0 a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  by_cases hU : Used a t
  · by_cases h0 : t.val % 4 = 0
    · exact sound_C m a c t hU h0
    · by_cases h3 : t.val % 4 = 3
      · exact sound_E m a c t hU h3
      · exact sound_D m a c t hU h0 h3
  · by_cases h3 : t.val % 4 = 3
    · exact sound_B m a c t hU h3
    · exact sound_A m a c t hU h3

/-- The library's body obligation, at every point. -/
theorem body_obligation (c : Dev nD) : BodyObligation (dats m a 0 c) (defs₀ (F := F)) Variants.none () Set.univ := fun t => by
  rw [bigSep_W0]
  exact sound_body m a c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v16) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA (cfgA a).spec c ∗ Pipeline.ΦT pre0 a.1 c) ⊢ (dats m a 0 c).Φ 0 := by
  rw [show (dats m a 0 c).Φ 0 = Phi m a c 0 from rfl]
  unfold Pipeline.ΦA Pipeline.ΦT
  rw [prefHeld_eq, show Pipeline.scopedRest (cfgA a).spec c = Pipeline.scopedRest spec0 c from rfl, scopedRest0_eq]
  unfold Phi
  iintro ⟨⟨⟨⟨%a0, HS0⟩, ⟨%a1, HS1⟩⟩, HP⟩, HT0, HT1⟩
  isplitl [HS0 HS1]
  · iexists a0, a1; isplitr; swap
    · isplitl [HS0]; · iexact HS0
      iexact HS1
    · ipureintro; intro h; exact absurd rfl h
  isplitl [HP]; · iexact HP
  isplitl [HT0]; · iexact HT0
  iexact HT1

theorem phi_out (c : Dev nD) : (dats m a 0 c).Φ (Fin.last (cfgA a).N) ⊢ Pipeline.ΦA (cfgA a).spec c := by
  rw [show (dats m a 0 c).Φ (Fin.last (cfgA a).N) = Phi m a c (cfgA a).N from rfl]
  unfold Pipeline.ΦA
  rw [show Pipeline.scopedRest (cfgA a).spec c = Pipeline.scopedRest spec0 c from rfl, scopedRest0_eq]
  unfold Phi
  iintro ⟨⟨%a0, %a1, -, HS0, HS1⟩, HP, -, -⟩
  isplitl [HS0 HS1]
  · isplitl [HS0]; · iexists a0; iexact HS0
    iexists a1; iexact HS1
  iexact HP

theorem hostOps0_fresh : (hostOps0 : List (HloOp τ sig (Elt F))).Forall fun op => op.fresh = ∅ := by
  simp only [List.Forall]; repeat' constructor

set_option maxHeartbeats 1600000 in
theorem hmain (𝒱₀ : Variants) : Pipeline.HMainPK (Ix := Unit) (Name := ℕ) (U := UR sig nD τ) (Lvl := ℕ) (pcfgs (F := F)) 0 defs₀ 𝒱₀ m (main (F := F))
    (fun c b => V₀ m c (Proc.devRef .tc b)) (fun _ => Pipeline.chain (([] : List (List (HloOp τ sig (Elt F)))).map StableHlo.seq)) :=
  Pipeline.hmainP_around _ 0 defs₀ 𝒱₀ m main [hostOps0] [] hostOps0_sub hostOps0_fresh main_chain

set_option backward.isDefEq.respectTransparency.types false in
set_option maxHeartbeats 1600000 in
/-- The run: it ends with every window's array at what the data say, every other buffer as the host operations left it, the counters at zero. -/
theorem run_post (hpf : ∀ c k, V₀ m c (Proc.devRef .tc (pre0.ref k)) = a.1 k) :
    θ_run (defs (F := F)) (onTc (τ := τ) (main (F := F))) (s₀ m ρ)
      (fun r => Pipeline.FramePost (pcs a) (dats m a) 0 (Pipeline.afterTail pcfgs (fun _ => a) (dats m a) 0 (V₀ m) []) r ∧ r.2.sem = fun _ => 0) :=
  Pipeline.θ_run_frameP_around_track_shared pcfgs (fun _ => a) (dats m a) 0 launch₀0 defs₀ Variants.none m ρ main
    (fun c => (body_obligation m a c).loose) (fun _ _ _ => rfl) (fun _ _ => rfl) (V₀ m) [] (by simp) (by simp) (by simp)
    (hmain m Variants.none) (fun _ _ => rfl) hpf (phi_in m a) (phi_out m a) _ (fun _ h => h)

end Cert.ExpertsIdeal.Run

end
-- ==== Proof.ExpertsIdealEnd.lean ====
/-
  The end of the experts' run under the precondition's fact: the host gather's table is in range, the arguments end unchanged,
  and the result array holds what the data say.
-/
module

public import proofs.«01_k».proof.Proof.ExpertsIdealFrame
public import Idealize.ShloMosaic.Lib.Claim
public import Idealize.ShloMosaic.Lib.StableHlo.RunRead

@[expose] public section

set_option maxRecDepth 16384
set_option Elab.async false

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- What a host buffer holds when the region starts. -/
abbrev V (c : Dev nD) (b : Ref sig .tc) : Buf (Elt F) ((c : Thread nD τ).loc b) := StableHlo.after [hostOps0].flatten (fun b => m (c, b)) (Proc.devRef .tc b)

/-- The block index each step reads, clamped to the used blocks and not below zero. -/
def clampV (n : IVec S1 32) : IVec S288 32 :=
  minsi (iotaInDim S288 32 0) (broadcastInDim S288 ![] bcast_S_S288 (maxsi (subi (shapeCast (s := S1) S_ n shapeCasts_S1_S_) (constantI S_ 32 1#32)) (constantI S_ 32 0#32)))

def idxV (n : IVec S1 32) : IVec S288x1 32 :=
  broadcastInDim S288x1 ![0] bcast_S288_S288x1_0
    (select (cmpi .slt (clampV n) (broadcastInDim S288 ![] bcast_S_S288 (constantI S_ 32 0#32)))
      (addi (clampV n) (broadcastInDim S288 ![] bcast_S_S288 (constantI S_ 32 288#32))) (clampV n))

set_option maxHeartbeats 1600000 in
theorem v16_eq (c : Dev nD) : (V m c main_v16 : IVec S288 32)
    = Host.gather gather_S288_S288x1_S288_n_0_n_n_0_1_1 (m ((c : Thread nD τ).loc main_arg0) : IVec S288 32) (idxV (m ((c : Thread nD τ).loc main_arg1) : IVec S1 32)) := by
  show StableHlo.after hostOps0 (fun b => m (c, b)) (Proc.devRef .tc main_v16) = _
  after_reads_simp
  rfl

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The tables the launch reads, under the range of the experts. -/
def pfOf : pre0.Contents (Elt F) := fun k => V m 0 (pre0.ref k)

theorem pf_ok (hw : ∀ x : S288.Idx, ((m (((0 : Dev nD) : Thread nD τ).loc main_arg0) : IVec S288 32) x).toNat < 32) : ok0 (pfOf m) :=
  ok_of _ fun x => by
    rw [show pfOf m 0 = (V m 0 main_v16 : IVec S288 32) from rfl, v16_eq]
    exact hw _

def aOf (hw : ∀ x : S288.Idx, ((m (((0 : Dev nD) : Thread nD τ).loc main_arg0) : IVec S288 32) x).toNat < 32) : (pcfg0 (F := F)).Adm := ⟨pfOf m, pf_ok m hw⟩

theorem devs (c : Dev nD) : c = 0 := by
  have : ∀ c : Dev nD, c = 0 := by decide
  exact this c

variable (hw : ∀ x : S288.Idx, ((m (((0 : Dev nD) : Thread nD τ).loc main_arg0) : IVec S288 32) x).toNat < 32)

theorem hpf (c : Dev nD) (k) : V₀ m c (Proc.devRef .tc (pre0.ref k)) = (aOf m hw).1 k := by
  rw [devs c]; rfl

theorem tail_eq (c : Dev nD) (b : Ref sig .tc) (hb : ∀ w : Fin 8, Pipeline.arrRef spec0 w ≠ b) :
    Pipeline.afterTail (pcfgs (F := F)) (fun _ => aOf m hw) (dats m (aOf m hw)) 0 (V₀ m) [] c b = V m c b := by
  unfold Pipeline.afterTail
  rw [show ([] : List (List (HloOp τ sig (Elt F)))).flatten = [] from rfl]
  exact Pipeline.withArrays_of_ne _ c (V₀ m c) _ b hb

set_option maxHeartbeats 1600000 in
/-- Every run ends with the result array as the data say, the arguments unchanged and the counters at zero. -/
theorem run_all : θ_run (defs (F := F)) (onTc (τ := τ) (main (F := F))) ⟨m, fun _ => 0, ρ⟩
    (fun r => (∀ c : Dev nD, r.2.mem ((c : Thread nD τ).loc main_v17) = (dats m (aOf m hw) 0 c).arrAt (7 : Fin 8) (cfgA (aOf m hw)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun r h => ⟨fun c => ⟨(h.1 c).1 (7 : Fin 8),
    ((h.1 c).2 main_arg0 (Pipeline.mem_restRefs_of main_arg0 (by decide) (show ∀ w : Fin 8, Pipeline.arrRef spec0 w ≠ main_arg0 by decide))).trans ((tail_eq m hw c main_arg0 (by decide)).trans (V_arg0 m c)),
    ((h.1 c).2 main_arg1 (Pipeline.mem_restRefs_of main_arg1 (by decide) (show ∀ w : Fin 8, Pipeline.arrRef spec0 w ≠ main_arg1 by decide))).trans ((tail_eq m hw c main_arg1 (by decide)).trans (V_arg1 m c)),
    ((h.1 c).1 (0 : Fin 8)).trans (((dats m (aOf m hw) 0 c).arrAt_in (0 : Fin 8) rfl _).trans (V_arg2 m c)),
    ((h.1 c).2 main_arg3 (Pipeline.mem_restRefs_of main_arg3 (by decide) (show ∀ w : Fin 8, Pipeline.arrRef spec0 w ≠ main_arg3 by decide))).trans ((tail_eq m hw c main_arg3 (by decide)).trans (V_arg3 m c)),
    ((h.1 c).2 main_arg4 (Pipeline.mem_restRefs_of main_arg4 (by decide) (show ∀ w : Fin 8, Pipeline.arrRef spec0 w ≠ main_arg4 by decide))).trans ((tail_eq m hw c main_arg4 (by decide)).trans (V_arg4 m c)),
    ((h.1 c).2 main_arg5 (Pipeline.mem_restRefs_of main_arg5 (by decide) (show ∀ w : Fin 8, Pipeline.arrRef spec0 w ≠ main_arg5 by decide))).trans ((tail_eq m hw c main_arg5 (by decide)).trans (V_arg5 m c)),
    ((h.1 c).2 main_arg6 (Pipeline.mem_restRefs_of main_arg6 (by decide) (show ∀ w : Fin 8, Pipeline.arrRef spec0 w ≠ main_arg6 by decide))).trans ((tail_eq m hw c main_arg6 (by decide)).trans (V_arg6 m c))⟩, h.2⟩)
    (run_post m ρ (aOf m hw) (hpf m hw))

end Cert.ExpertsIdeal.Run

end
-- ==== Proof.ExpertsRefMath.lean ====
/-
  The reference's experts read at an index: the gathered weights of each block's expert, the clamped gated activation,
  and the two products as sums.
-/
module

public import proofs.«01_k».proof.Proof.Gen.ExpertsRefIdeal.Run
public import Idealize.ShloMosaic.Lib.Pipeline.ValueKit
public import Idealize.ShloMosaic.Lib.Claim

@[expose] public section

set_option maxRecDepth 16384

noncomputable section

namespace Cert.ExpertsRefIdeal.RefMath

open Cert.ExpertsRefIdeal Cert.ExpertsRefIdeal.Gen Idealize.ShloMosaic Idealize.ShloMosaic.TcCoe Idealize.SL.Sem

/-- The clamped gated activation of a gate and an up entry. -/
def act (g u : EReal) : EReal :=
  (min (Ideal.ofBits FTy.f32 1088421888#32) (max (Ideal.ofBits FTy.f32 3235905536#32) u) + 1)
    * (min g (Ideal.ofBits FTy.f32 1088421888#32)
      * Ideal.logistic (Ideal.ofBits FTy.f32 1071242019#32 * min g (Ideal.ofBits FTy.f32 1088421888#32)))

/-- The start indices of the gathers: an expert's number, counted from the end when negative. -/
def IDX (te : IVec S288 32) : IVec S288x1 32 :=
  broadcastInDim S288x1 ![0] bcast_S288_S288x1_0 (select (cmpi .slt te (broadcastInDim S288 ![] bcast_S_S288 (constantI S_ 32 0#32))) (addi te (broadcastInDim S288 ![] bcast_S_S288 (constantI S_ 32 32#32))) te)

/-- The first product with its bias. -/
def GU (te : IVec S288 32) (xs : FVec Ideal S2359296x128 .f32) (w1 : FVec Ideal S32x2048x4096 .f32) (b1 : FVec Ideal S32x4096 .f32) : FVec Ideal S288x512x4096 .f32 :=
  addf (Host.dotGeneral dot_S288x512x2048_S288x2048x4096_S288x512x4096_2_1_1_2_0_0 none (shapeCast _ xs shapeCasts_S2359296x128_S288x512x2048) (Host.gather gather_S32x2048x4096_S288x1_S288x2048x4096_12_0_n_n_0_1_120484096 w1 (IDX te))) (broadcastInDim S288x512x4096 ![0, 1, 2] bcast_S288x1x4096_S288x512x4096_0_1_2 (broadcastInDim S288x1x4096 ![0, 2] bcast_S288x4096_S288x1x4096_0_2 (Host.gather gather_S32x4096_S288x1_S288x4096_1_0_n_n_0_1_14096 b1 (IDX te))))

/-- The activation of the first product. -/
def ACT (gu : FVec Ideal S288x512x4096 .f32) : FVec Ideal S288x512x2048 .f32 :=
  mulf (addf (minimumf (broadcastInDim S288x512x2048 ![] bcast_S_S288x512x2048 (id (constant S_ .f32 0x40E00000#32))) (maximumf (broadcastInDim S288x512x2048 ![] bcast_S_S288x512x2048 (id (constant S_ .f32 0xC0E00000#32))) (extractStridedSlice S288x512x2048 ![0, 0, 2048] gu slices_S288x512x4096_S288x512x2048_0_0_2048))) (broadcastInDim S288x512x2048 ![] bcast_S_S288x512x2048 (constant S_ .f32 0x3F800000#32))) (mulf (minimumf (extractStridedSlice S288x512x2048 ![0, 0, 0] gu slices_S288x512x4096_S288x512x2048_0_0_0) (broadcastInDim S288x512x2048 ![] bcast_S_S288x512x2048 (constant S_ .f32 0x40E00000#32))) (Host.divf (broadcastInDim S288x512x2048 ![] bcast_S_S288x512x2048 (constant S_ .f32 0x3F800000#32)) (addf (broadcastInDim S288x512x2048 ![] bcast_S_S288x512x2048 (constant S_ .f32 0x3F800000#32)) (Host.exp (Host.negf (mulf (broadcastInDim S288x512x2048 ![] bcast_S_S288x512x2048 (constant S_ .f32 0x3FD9DB23#32)) (minimumf (extractStridedSlice S288x512x2048 ![0, 0, 0] gu slices_S288x512x4096_S288x512x2048_0_0_0) (broadcastInDim S288x512x2048 ![] bcast_S_S288x512x2048 (constant S_ .f32 0x40E00000#32)))))))))

/-- The reference's term over its argument arrays. -/
def REF (te : IVec S288 32) (n : IVec S1 32) (xs : FVec Ideal S2359296x128 .f32) (w1 : FVec Ideal S32x2048x4096 .f32) (b1 : FVec Ideal S32x4096 .f32)
    (w2 : FVec Ideal S32x2048x2048 .f32) (b2 : FVec Ideal S32x2048 .f32) : FVec Ideal S2359296x128 .f32 :=
  shapeCast _ (select (broadcastInDim S288x512x2048 ![0, 1, 2] bcast_S288x1x1_S288x512x2048_0_1_2 (cmpi .slt (broadcastInDim S288x1x1 ![0] bcast_S288_S288x1x1_0 (iotaInDim S288 32 0)) (broadcastInDim S288x1x1 ![] bcast_S_S288x1x1 (shapeCast _ n shapeCasts_S1_S_)))) (addf (Host.dotGeneral dot_S288x512x2048_S288x2048x2048_S288x512x2048_2_1_1_2_0_0 none (ACT (GU te xs w1 b1)) (Host.gather gather_S32x2048x2048_S288x1_S288x2048x2048_12_0_n_n_0_1_120482048 w2 (IDX te))) (broadcastInDim S288x512x2048 ![0, 1, 2] bcast_S288x1x2048_S288x512x2048_0_1_2 (broadcastInDim S288x1x2048 ![0, 2] bcast_S288x2048_S288x1x2048_0_2 (Host.gather gather_S32x2048_S288x1_S288x2048_1_0_n_n_0_1_12048 b2 (IDX te))))) (broadcastInDim S288x512x2048 ![] bcast_S_S288x512x2048 (id (constant S_ .f32 0x00000000#32)))) shapeCasts_S288x512x2048_S2359296x128

theorem res_eq (m : (ℓ : Loc nD τ sig) → Buf (Elt Ideal) ℓ) (c : Dev nD) : Value.res_main_v60 m c
    = REF (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  unfold Value.res_main_v60 REF ACT GU IDX
  rfl

/-- An expert's number in range is its own start index. -/
theorem IDX_at (te : IVec S288 32) (h : ∀ x, (te x).toNat < 32) (i : Fin 288) : IDX te (ix2 i 0) = te (ix1 i) := by
  have h' := h (ix1 i)
  pointwise [IDX]
  have e : BitVec.slt (te (ix1 i)) 0#32 = false := by
    simp only [BitVec.slt, BitVec.toInt_eq_toNat_cond, decide_eq_false_iff_not]
    have := (te (ix1 i)).isLt
    split
    · simp
    · omega
  show Scalar.select (BitVec.ofBool ((te (ix1 i)).slt 0#32)) _ _ = _
  rw [e]
  rfl

theorem start_eq (v : BitVec 32) (h : v.toNat < 32) : min v.toInt.toNat (32 - 1) = v.toNat := by
  rw [BitVec.toInt_eq_toNat_cond, if_pos (by omega)]
  omega

theorem gW1 (x : FVec Ideal S32x2048x4096 .f32) (idx : IVec S288x1 32) (i : Fin 288) (d : Fin 2048) (f : Fin 4096) (e : Fin 32) (h : (idx (ix2 i 0)).toNat = e.val) :
    Host.gather gather_S32x2048x4096_S288x1_S288x2048x4096_12_0_n_n_0_1_120484096 x idx (ix3 i d f) = x (ix3 e d f) := by
  have hsi : ∀ k, (gather_S32x2048x4096_S288x1_S288x2048x4096_12_0_n_n_0_1_120484096).siIdx (ix3 i d f) k = (ix2 i 0 : S288x1.Idx) := by
    intro k
    funext b
    refine Fin.ext ?_
    match b with
    | ⟨0, _⟩ => rfl
    | ⟨1, _⟩ => exact Nat.lt_one_iff.1 k.isLt
  unfold Host.gather
  congr 1
  funext a
  refine Fin.ext ?_
  show (gather_S32x2048x4096_S288x1_S288x2048x4096_12_0_n_n_0_1_120484096).start (ix3 i d f) idx a + (gather_S32x2048x4096_S288x1_S288x2048x4096_12_0_n_n_0_1_120484096).batchCoord (ix3 i d f) a + (gather_S32x2048x4096_S288x1_S288x2048x4096_12_0_n_n_0_1_120484096).offCoord (ix3 i d f) a = _
  rw [GatherDims.batchCoord_eq_zero _ _ _ List.not_mem_nil, Nat.add_zero]
  match a with
  | ⟨0, q⟩ =>
    unfold GatherDims.start
    rw [dif_pos (show (⟨0, q⟩ : Fin S32x2048x4096.rank) ∈ (gather_S32x2048x4096_S288x1_S288x2048x4096_12_0_n_n_0_1_120484096).startIndexMap from List.mem_singleton.mpr rfl), hsi]
    exact (congrArg (· + 0) (start_eq _ (by rw [h]; exact e.isLt))).trans (by rw [Nat.add_zero, h]; rfl)
  | ⟨1, q⟩ =>
    unfold GatherDims.start
    rw [dif_neg (show ¬((⟨1, q⟩ : Fin S32x2048x4096.rank) ∈ (gather_S32x2048x4096_S288x1_S288x2048x4096_12_0_n_n_0_1_120484096).startIndexMap) from fun hm => absurd (Fin.ext_iff.1 (List.mem_singleton.1 hm)) (show ¬((1 : Nat) = 0) by decide)), Nat.zero_add]
    rfl
  | ⟨2, q⟩ =>
    unfold GatherDims.start
    rw [dif_neg (show ¬((⟨2, q⟩ : Fin S32x2048x4096.rank) ∈ (gather_S32x2048x4096_S288x1_S288x2048x4096_12_0_n_n_0_1_120484096).startIndexMap) from fun hm => absurd (Fin.ext_iff.1 (List.mem_singleton.1 hm)) (show ¬((2 : Nat) = 0) by decide)), Nat.zero_add]
    rfl

theorem gB1 (x : FVec Ideal S32x4096 .f32) (idx : IVec S288x1 32) (i : Fin 288) (f : Fin 4096) (e : Fin 32) (h : (idx (ix2 i 0)).toNat = e.val) :
    Host.gather gather_S32x4096_S288x1_S288x4096_1_0_n_n_0_1_14096 x idx (ix2 i f) = x (ix2 e f) := by
  have hsi : ∀ k, (gather_S32x4096_S288x1_S288x4096_1_0_n_n_0_1_14096).siIdx (ix2 i f) k = (ix2 i 0 : S288x1.Idx) := by
    intro k
    funext b
    refine Fin.ext ?_
    match b with
    | ⟨0, _⟩ => rfl
    | ⟨1, _⟩ => exact Nat.lt_one_iff.1 k.isLt
  unfold Host.gather
  congr 1
  funext a
  refine Fin.ext ?_
  show (gather_S32x4096_S288x1_S288x4096_1_0_n_n_0_1_14096).start (ix2 i f) idx a + (gather_S32x4096_S288x1_S288x4096_1_0_n_n_0_1_14096).batchCoord (ix2 i f) a + (gather_S32x4096_S288x1_S288x4096_1_0_n_n_0_1_14096).offCoord (ix2 i f) a = _
  rw [GatherDims.batchCoord_eq_zero _ _ _ List.not_mem_nil, Nat.add_zero]
  match a with
  | ⟨0, q⟩ =>
    unfold GatherDims.start
    rw [dif_pos (show (⟨0, q⟩ : Fin S32x4096.rank) ∈ (gather_S32x4096_S288x1_S288x4096_1_0_n_n_0_1_14096).startIndexMap from List.mem_singleton.mpr rfl), hsi]
    exact (congrArg (· + 0) (start_eq _ (by rw [h]; exact e.isLt))).trans (by rw [Nat.add_zero, h]; rfl)
  | ⟨1, q⟩ =>
    unfold GatherDims.start
    rw [dif_neg (show ¬((⟨1, q⟩ : Fin S32x4096.rank) ∈ (gather_S32x4096_S288x1_S288x4096_1_0_n_n_0_1_14096).startIndexMap) from fun hm => absurd (Fin.ext_iff.1 (List.mem_singleton.1 hm)) (show ¬((1 : Nat) = 0) by decide)), Nat.zero_add]
    rfl

theorem gW2 (x : FVec Ideal S32x2048x2048 .f32) (idx : IVec S288x1 32) (i : Fin 288) (d : Fin 2048) (f : Fin 2048) (e : Fin 32) (h : (idx (ix2 i 0)).toNat = e.val) :
    Host.gather gather_S32x2048x2048_S288x1_S288x2048x2048_12_0_n_n_0_1_120482048 x idx (ix3 i d f) = x (ix3 e d f) := by
  have hsi : ∀ k, (gather_S32x2048x2048_S288x1_S288x2048x2048_12_0_n_n_0_1_120482048).siIdx (ix3 i d f) k = (ix2 i 0 : S288x1.Idx) := by
    intro k
    funext b
    refine Fin.ext ?_
    match b with
    | ⟨0, _⟩ => rfl
    | ⟨1, _⟩ => exact Nat.lt_one_iff.1 k.isLt
  unfold Host.gather
  congr 1
  funext a
  refine Fin.ext ?_
  show (gather_S32x2048x2048_S288x1_S288x2048x2048_12_0_n_n_0_1_120482048).start (ix3 i d f) idx a + (gather_S32x2048x2048_S288x1_S288x2048x2048_12_0_n_n_0_1_120482048).batchCoord (ix3 i d f) a + (gather_S32x2048x2048_S288x1_S288x2048x2048_12_0_n_n_0_1_120482048).offCoord (ix3 i d f) a = _
  rw [GatherDims.batchCoord_eq_zero _ _ _ List.not_mem_nil, Nat.add_zero]
  match a with
  | ⟨0, q⟩ =>
    unfold GatherDims.start
    rw [dif_pos (show (⟨0, q⟩ : Fin S32x2048x2048.rank) ∈ (gather_S32x2048x2048_S288x1_S288x2048x2048_12_0_n_n_0_1_120482048).startIndexMap from List.mem_singleton.mpr rfl), hsi]
    exact (congrArg (· + 0) (start_eq _ (by rw [h]; exact e.isLt))).trans (by rw [Nat.add_zero, h]; rfl)
  | ⟨1, q⟩ =>
    unfold GatherDims.start
    rw [dif_neg (show ¬((⟨1, q⟩ : Fin S32x2048x2048.rank) ∈ (gather_S32x2048x2048_S288x1_S288x2048x2048_12_0_n_n_0_1_120482048).startIndexMap) from fun hm => absurd (Fin.ext_iff.1 (List.mem_singleton.1 hm)) (show ¬((1 : Nat) = 0) by decide)), Nat.zero_add]
    rfl
  | ⟨2, q⟩ =>
    unfold GatherDims.start
    rw [dif_neg (show ¬((⟨2, q⟩ : Fin S32x2048x2048.rank) ∈ (gather_S32x2048x2048_S288x1_S288x2048x2048_12_0_n_n_0_1_120482048).startIndexMap) from fun hm => absurd (Fin.ext_iff.1 (List.mem_singleton.1 hm)) (show ¬((2 : Nat) = 0) by decide)), Nat.zero_add]
    rfl

theorem gB2 (x : FVec Ideal S32x2048 .f32) (idx : IVec S288x1 32) (i : Fin 288) (f : Fin 2048) (e : Fin 32) (h : (idx (ix2 i 0)).toNat = e.val) :
    Host.gather gather_S32x2048_S288x1_S288x2048_1_0_n_n_0_1_12048 x idx (ix2 i f) = x (ix2 e f) := by
  have hsi : ∀ k, (gather_S32x2048_S288x1_S288x2048_1_0_n_n_0_1_12048).siIdx (ix2 i f) k = (ix2 i 0 : S288x1.Idx) := by
    intro k
    funext b
    refine Fin.ext ?_
    match b with
    | ⟨0, _⟩ => rfl
    | ⟨1, _⟩ => exact Nat.lt_one_iff.1 k.isLt
  unfold Host.gather
  congr 1
  funext a
  refine Fin.ext ?_
  show (gather_S32x2048_S288x1_S288x2048_1_0_n_n_0_1_12048).start (ix2 i f) idx a + (gather_S32x2048_S288x1_S288x2048_1_0_n_n_0_1_12048).batchCoord (ix2 i f) a + (gather_S32x2048_S288x1_S288x2048_1_0_n_n_0_1_12048).offCoord (ix2 i f) a = _
  rw [GatherDims.batchCoord_eq_zero _ _ _ List.not_mem_nil, Nat.add_zero]
  match a with
  | ⟨0, q⟩ =>
    unfold GatherDims.start
    rw [dif_pos (show (⟨0, q⟩ : Fin S32x2048.rank) ∈ (gather_S32x2048_S288x1_S288x2048_1_0_n_n_0_1_12048).startIndexMap from List.mem_singleton.mpr rfl), hsi]
    exact (congrArg (· + 0) (start_eq _ (by rw [h]; exact e.isLt))).trans (by rw [Nat.add_zero, h]; rfl)
  | ⟨1, q⟩ =>
    unfold GatherDims.start
    rw [dif_neg (show ¬((⟨1, q⟩ : Fin S32x2048.rank) ∈ (gather_S32x2048_S288x1_S288x2048_1_0_n_n_0_1_12048).startIndexMap) from fun hm => absurd (Fin.ext_iff.1 (List.mem_singleton.1 hm)) (show ¬((1 : Nat) = 0) by decide)), Nat.zero_add]
    rfl

/-- The row of a block's token in the token array's own layout. -/
def X (xs : FVec Ideal S2359296x128 .f32) (i : Fin 288) (r : Fin 512) (d : Fin 2048) : EReal :=
  xs (ix2 ⟨i.val * 8192 + r.val * 16 + d.val / 128, by omega⟩ ⟨d.val % 128, by omega⟩)

/-- A block's expert. -/
def ex (te : IVec S288 32) (h : ∀ x, (te x).toNat < 32) (i : Fin 288) : Fin 32 := ⟨(te (ix1 i)).toNat, h _⟩

/-- The first product of a block's token and a column, with its bias. -/
def gu (te : IVec S288 32) (h : ∀ x, (te x).toNat < 32) (xs : FVec Ideal S2359296x128 .f32) (w1 : FVec Ideal S32x2048x4096 .f32)
    (b1 : FVec Ideal S32x4096 .f32) (i : Fin 288) (r : Fin 512) (f : Fin 4096) : EReal :=
  ∑ x, X xs i r x * w1 (ix3 (ex te h i) x f) + b1 (ix2 (ex te h i) f)

/-- The hidden entry of a block's token. -/
def hid (te : IVec S288 32) (h : ∀ x, (te x).toNat < 32) (xs : FVec Ideal S2359296x128 .f32) (w1 : FVec Ideal S32x2048x4096 .f32)
    (b1 : FVec Ideal S32x4096 .f32) (i : Fin 288) (r : Fin 512) (f : Fin 2048) : EReal :=
  act (gu te h xs w1 b1 i r ⟨f.val, by omega⟩) (gu te h xs w1 b1 i r ⟨2048 + f.val, by omega⟩)

theorem ACT_at (gu : FVec Ideal S288x512x4096 .f32) (i : Fin 288) (r : Fin 512) (f : Fin 2048) :
    ACT gu (ix3 i r f) = act (gu (ix3 i r ⟨f.val, by omega⟩)) (gu (ix3 i r ⟨2048 + f.val, by omega⟩)) := by
  pointwise [ACT, act]
  rfl

theorem GU_at (te xs w1 b1) (h : ∀ x, (te x).toNat < 32) (i : Fin 288) (r : Fin 512) (f : Fin 4096) :
    GU te xs w1 b1 (ix3 i r f) = gu te h xs w1 b1 i r f := by
  pointwise [GU]
  rw [gB1 b1 (IDX te) i f (ex te h i) (by rw [IDX_at te h]; rfl)]
  refine congrArg (· + _) (Finset.sum_congr rfl fun x _ => ?_)
  rw [gW1 w1 (IDX te) i x f (ex te h i) (by rw [IDX_at te h]; rfl)]
  rfl

theorem REF_at (te n xs w1 b1 w2 b2) (h : ∀ x, (te x).toNat < 32) (k : Fin 2359296) (l : Fin 128) :
    REF te n xs w1 b1 w2 b2 (ix2 k l) = Scalar.select (IntOp.cmpi CmpIPredicate.slt (BitVec.ofNat 32 (k.val / 8192)) (n (ix1 0)))
      (∑ x, hid te h xs w1 b1 ⟨k.val / 8192, by omega⟩ ⟨k.val / 16 % 512, by omega⟩ x
            * w2 (ix3 (ex te h ⟨k.val / 8192, by omega⟩) x ⟨k.val % 16 * 128 + l.val, by omega⟩)
          + b2 (ix2 (ex te h ⟨k.val / 8192, by omega⟩) ⟨k.val % 16 * 128 + l.val, by omega⟩)) (0 : EReal) := by
  pointwise [REF]
  rw [gB2 b2 (IDX te) _ _ (ex te h _) (by rw [IDX_at te h]; rfl)]
  refine congrArg₂ (Scalar.select _) (congrArg (· + _) (Finset.sum_congr rfl fun x _ => ?_)) ?_
  · rw [gW2 w2 (IDX te) _ _ _ (ex te h _) (by rw [IDX_at te h]; rfl), ACT_at, GU_at te xs w1 b1 h, GU_at te xs w1 b1 h]
    rfl
  · show (constant (F := Ideal) S_ FTy.f32 0x00000000#32) ix0 = 0
    pointwise

end Cert.ExpertsRefIdeal.RefMath

end
-- ==== Proof.ExpertsMath.lean ====
/-
  The experts' payloads read at an index, and the windows' blocks of a block in use read off the argument arrays.
-/
module

public import proofs.«01_k».proof.Proof.ExpertsIdealEnd
public import proofs.«01_k».proof.Proof.ExpertsRefMath

@[expose] public section

set_option maxRecDepth 16384

noncomputable section

open Idealize.ShloMosaic Idealize.ShloMosaic.TcCoe Idealize.SL.Sem
open Idealize.ShloMosaic.Pipeline (Dat Cfg Window)

namespace Cert.ExpertsIdeal.Run

open Cert.ExpertsIdeal Cert.ExpertsIdeal.Gen
open Cert.ExpertsRefIdeal.RefMath (act)

theorem pay38_at (b : Vec Ideal S512x2048 .bf16) (x1 x2 : Vec Ideal S1x2048x512 .bf16) (x3 x4 : Vec Ideal S1x1x512 .f32) (r : Fin 512) (f : Fin 512) :
    k0_pay38 (F := Ideal) b x1 x3 x2 x4 (ix2 r f)
      = act (∑ x, b (ix2 r x) * x1 (ix3 0 x f) + x3 (ix3 0 0 f)) (∑ x, b (ix2 r x) * x2 (ix3 0 x f) + x4 (ix3 0 0 f)) := by
  pointwise [k0_pay38, act]

theorem pay1_at (h : FVec Ideal S512x512 .bf16) (x5 : Vec Ideal S1x512x2048 .bf16) (r : Fin 512) (d : Fin 2048) :
    k0_pay1 (F := Ideal) h x5 (ix2 r d) = ∑ x, h (ix2 r x) * x5 (ix3 0 x d) := by
  pointwise [k0_pay1]

theorem pay23_at (a : Vec Ideal S512x2048 .f32) (x6 : Vec Ideal S1x1x2048 .f32) (r : Fin 512) (d : Fin 2048) :
    k0_pay23 (F := Ideal) a x6 (ix2 r d) = a (ix2 r d) + x6 (ix3 0 0 d) := by
  pointwise [k0_pay23]

theorem pay10_at (r : Fin 8192) (d : Fin 128) :
    k0_pay10 (F := Ideal) (ix2 r d) = (0 : EReal) := by
  pointwise [k0_pay10]

theorem XB_at (x0 : Vec Ideal S8192x128 .f32) (r : Fin 512) (d : Fin 2048) :
    XB x0 (ix2 r d) = x0 (ix2 ⟨16 * r.val + d.val / 128, by omega⟩ ⟨d.val % 128, by omega⟩) := rfl

theorem part0_at (b : Vec Ideal S512x2048 .bf16) (x1 x2 : Vec Ideal S1x2048x512 .bf16) (x3 x4 : Vec Ideal S1x1x512 .f32) (x5 : Vec Ideal S1x512x2048 .bf16) (r : Fin 512) (d : Fin 2048) :
    part0 b x1 x2 x3 x4 x5 (ix2 r d)
      = ∑ f, act (∑ x, b (ix2 r x) * x1 (ix3 0 x f) + x3 (ix3 0 0 f)) (∑ x, b (ix2 r x) * x2 (ix3 0 x f) + x4 (ix3 0 0 f)) * x5 (ix3 0 f d) := by
  unfold part0
  rw [pay1_at]
  exact Finset.sum_congr rfl fun f _ => by rw [pay38_at]

theorem partS_at (s : Vec Ideal S512x2048 .f32) (b : Vec Ideal S512x2048 .bf16) (x1 x2 : Vec Ideal S1x2048x512 .bf16) (x3 x4 : Vec Ideal S1x1x512 .f32) (x5 : Vec Ideal S1x512x2048 .bf16) (r : Fin 512) (d : Fin 2048) :
    partS s b x1 x2 x3 x4 x5 (ix2 r d) = (s (ix2 r d) : EReal) + part0 b x1 x2 x3 x4 x5 (ix2 r d) := rfl

theorem OUT_at (s : Vec Ideal S512x2048 .f32) (x6 : Vec Ideal S1x1x2048 .f32) (p : Fin 8192) (l : Fin 128) :
    OUT s x6 (ix2 p l) = (s (ix2 ⟨p.val / 16, by omega⟩ ⟨128 * (p.val % 16) + l.val, by omega⟩) : EReal) + x6 (ix3 0 0 ⟨128 * (p.val % 16) + l.val, by omega⟩) :=
  pay23_at s x6 ⟨p.val / 16, by omega⟩ ⟨128 * (p.val % 16) + l.val, by omega⟩

variable (m : (ℓ : Loc nD τ sig) → Buf (Elt Ideal) ℓ) (a : (pcfg0 (F := Ideal)).Adm)

theorem slt_clamp (i : Fin 288) (w : BitVec 32) (h : (BitVec.ofNat 32 i.val).slt w = true) :
    (Scalar.minsi (BitVec.ofNat 32 i.val) (Scalar.maxsi (Scalar.subi w 1#32) 0#32)).toNat = i.val := by
  have hi := i.isLt
  have e : (BitVec.ofNat 32 i.val).toNat = i.val := by rw [BitVec.toNat_ofNat]; omega
  have hw := w.isLt
  have ei : (BitVec.ofNat 32 i.val).toInt = i.val := by rw [BitVec.toInt_eq_toNat_cond, e, if_pos (by omega)]
  have h1 : (i.val : Int) < w.toInt := by simpa [BitVec.slt, ei] using h
  have hw1 : (Scalar.subi w 1#32).toInt = w.toInt - 1 := by
    show (w - 1#32).toInt = _
    have := w.toInt_lt
    rw [BitVec.toInt_sub, BitVec.toInt_one (by decide)]
    rw [Int.bmod_eq_of_le (by omega) (by omega)]
  show (if (BitVec.ofNat 32 i.val).slt (if (0#32).slt (Scalar.subi w 1#32) then Scalar.subi w 1#32 else 0#32) then BitVec.ofNat 32 i.val else (if (0#32).slt (Scalar.subi w 1#32) then Scalar.subi w 1#32 else 0#32)).toNat = i.val
  generalize Scalar.subi w 1#32 = v at hw1 ⊢
  by_cases h2 : (0#32).slt v = true
  · rw [if_pos h2]
    by_cases h3 : (BitVec.ofNat 32 i.val).slt v = true
    · rw [if_pos h3, e]
    · rw [if_neg h3]
      have h4 : ¬ ((i.val : Int) < v.toInt) := by simpa [BitVec.slt, ei] using h3
      have := v.isLt
      rw [BitVec.toInt_eq_toNat_cond] at hw1 h4
      split at hw1 <;> omega
  · rw [if_neg h2]
    have h4 : ¬ ((0 : Int) < v.toInt) := by simpa [BitVec.slt] using h2
    by_cases h3 : (BitVec.ofNat 32 i.val).slt 0#32 = true
    · rw [if_pos h3, e]
    · rw [if_neg h3]
      show 0 = i.val
      omega

theorem rd0 (c : Dev nD) (t : Fin (cfgA a).N) (hu : Used a t) (p : Fin 8192) (l : Fin 128) (q : Fin 2359296) (hq : q.val = t.val / 4 * 8192 + p.val) :
    (iblk m a c (0 : Fin 8) t : Vec Ideal S8192x128 .f32) (ix2 p l) = m ((c : Thread nD τ).loc main_arg2) (ix2 q l) := by
  rw [← V_arg2 m c]
  show (V m c main_arg2 : FVec Ideal S2359296x128 .f32) ((((cfgA a).win (0 : Fin 8)).blk t).view.emb (ix2 p l)) = _
  refine congrArg _ (funext fun b => Fin.ext ?_)
  refine (Window.rect_emb_val ((cfgA a).win (0 : Fin 8)) t (ix2 p l) b rfl).trans ?_
  match b with
  | ⟨0, _⟩ =>
    show (Scalar.minsi (BitVec.ofNat 32 (crd a t 0).val) (Scalar.maxsi (Scalar.subi (nu a.1) 1#32) 0#32)).toNat * 8192 + p.val = q.val
    rw [slt_clamp _ (nu a.1) ((c1_iff _ _).1 hu), crd0, hq]
  | ⟨1, _⟩ => show 0 * 128 + l.val = l.val; omega

/-- The number of a point's expert, as the index maps read it. -/
abbrev teW (t : Fin (cfgA a).N) : BitVec 32 :=
  a.1.at 0 (Rect.unit (s := S288) ![(Scalar.indexCast (BitVec.ofNat 32 (crd a t 0).val) : BitVec 32).toNat] S1.size (k0_off1_inb (crd a t))) numel1_S1

theorem teW_eq (t : Fin (cfgA a).N) (i : Fin 288) (hi : i.val = t.val / 4) : teW a t = (a.1 0 : IVec S288 32) (ix1 i) := by
  refine congrArg (a.1 0) (funext fun b => Fin.ext ?_)
  match b with
  | ⟨0, _⟩ =>
    show (BitVec.ofNat 32 (crd a t 0).val).toNat + 0 * 1 = i.val
    have e : (BitVec.ofNat 32 (crd a t 0).val).toNat = (crd a t 0).val := by
      rw [BitVec.toNat_ofNat]
      have := (crd a t 0).isLt
      have h2 : (crd a t 0).val < 288 := this
      omega
    rw [e, crd0, hi]
    omega

theorem ch_used (t : Fin (cfgA a).N) (hu : Used a t) :
    Scalar.select (Scalar.cmpi .slt (BitVec.ofNat 32 (crd a t 0).val) (nu a.1)) (BitVec.ofNat 32 (crd a t 1).val) 3#32 = BitVec.ofNat 32 (t.val % 4) := by
  have h := (c1_iff _ _).1 hu
  show Scalar.select (BitVec.ofBool ((BitVec.ofNat 32 (crd a t 0).val).slt (nuW (a.1 1)))) _ _ = _
  rw [h, crd1]
  rfl

theorem chN (j : Fin 4) : (BitVec.ofNat 32 j.val).toNat = j.val := by decide +revert
theorem chN4 (j : Fin 4) : (Scalar.addi 4#32 (BitVec.ofNat 32 j.val)).toNat = 4 + j.val := by decide +revert

theorem ch_nat (t : Fin (cfgA a).N) (hu : Used a t) :
    (Scalar.select (Scalar.cmpi .slt (BitVec.ofNat 32 (crd a t 0).val) (nu a.1)) (BitVec.ofNat 32 (crd a t 1).val) 3#32).toNat = t.val % 4 := by
  rw [ch_used a t hu]
  exact chN ⟨t.val % 4, by omega⟩

theorem ch4_nat (t : Fin (cfgA a).N) (hu : Used a t) :
    (Scalar.addi 4#32 (Scalar.select (Scalar.cmpi .slt (BitVec.ofNat 32 (crd a t 0).val) (nu a.1)) (BitVec.ofNat 32 (crd a t 1).val) 3#32)).toNat = 4 + t.val % 4 := by
  rw [ch_used a t hu]
  exact chN4 ⟨t.val % 4, by omega⟩

theorem V0_eq (c : Dev nD) : (V m c main_v0 : FVec Ideal S32x2048x4096 .bf16)
    = (show FVec Ideal S32x2048x4096 .bf16 from truncf .bf16 (show FVec Ideal S32x2048x4096 .f32 from m ((c : Thread nD τ).loc main_arg3)) bitsLt_bf16_f32) := by
  show StableHlo.after hostOps0 (fun b => m (c, b)) (Proc.devRef .tc main_v0) = _
  after_reads_simp

theorem V1_eq (c : Dev nD) : (V m c main_v1 : FVec Ideal S32x1x4096 .f32)
    = shapeCast (s := S32x4096) S32x1x4096 (m ((c : Thread nD τ).loc main_arg4) : FVec Ideal S32x4096 .f32) shapeCasts_S32x4096_S32x1x4096 := by
  show StableHlo.after hostOps0 (fun b => m (c, b)) (Proc.devRef .tc main_v1) = _
  after_reads_simp
  rfl

theorem V2_eq (c : Dev nD) : (V m c main_v2 : FVec Ideal S32x2048x2048 .bf16)
    = (show FVec Ideal S32x2048x2048 .bf16 from truncf .bf16 (show FVec Ideal S32x2048x2048 .f32 from m ((c : Thread nD τ).loc main_arg5)) bitsLt_bf16_f32) := by
  show StableHlo.after hostOps0 (fun b => m (c, b)) (Proc.devRef .tc main_v2) = _
  after_reads_simp

theorem V3_eq (c : Dev nD) : (V m c main_v3 : FVec Ideal S32x1x2048 .f32)
    = shapeCast (s := S32x2048) S32x1x2048 (m ((c : Thread nD τ).loc main_arg6) : FVec Ideal S32x2048 .f32) shapeCasts_S32x2048_S32x1x2048 := by
  show StableHlo.after hostOps0 (fun b => m (c, b)) (Proc.devRef .tc main_v3) = _
  after_reads_simp
  rfl

theorem cast4 (x : FVec Ideal S32x4096 .f32) (e : Fin 32) (f : Fin 4096) :
    shapeCast (s := S32x4096) S32x1x4096 x shapeCasts_S32x4096_S32x1x4096 (ix3 e 0 f) = x (ix2 e f) := by
  pointwise

theorem cast2 (x : FVec Ideal S32x2048 .f32) (e : Fin 32) (f : Fin 2048) :
    shapeCast (s := S32x2048) S32x1x2048 x shapeCasts_S32x2048_S32x1x2048 (ix3 e 0 f) = x (ix2 e f) := by
  pointwise

theorem rd1 (c : Dev nD) (t : Fin (cfgA a).N) (hu : Used a t) (e : Fin 32) (he : (teW a t).toNat = e.val) (x : Fin 2048) (f : Fin 512) (q : Fin 4096) (hq : q.val = t.val % 4 * 512 + f.val) :
    (iblk m a c (1 : Fin 8) t : Vec Ideal S1x2048x512 .bf16) (ix3 0 x f) = m ((c : Thread nD τ).loc main_arg3) (ix3 e x q) := by
  have h : (iblk m a c (1 : Fin 8) t : Vec Ideal S1x2048x512 .bf16) (ix3 0 x f) = (V m c main_v0 : FVec Ideal S32x2048x4096 .bf16) (ix3 e x q) := by
    show (V m c main_v0 : FVec Ideal S32x2048x4096 .bf16) ((((cfgA a).win (1 : Fin 8)).blk t).view.emb (ix3 0 x f)) = _
    refine congrArg _ (funext fun b => Fin.ext ?_)
    refine (Window.rect_emb_val ((cfgA a).win (1 : Fin 8)) t (ix3 0 x f) b rfl).trans ?_
    match b with
    | ⟨0, _⟩ => show (teW a t).toNat * 1 + 0 = e.val; omega
    | ⟨1, _⟩ => show 0 * 2048 + x.val = x.val; omega
    | ⟨2, _⟩ => show (Scalar.select (Scalar.cmpi .slt (BitVec.ofNat 32 (crd a t 0).val) (nu a.1)) (BitVec.ofNat 32 (crd a t 1).val) 3#32).toNat * 512 + f.val = q.val; rw [ch_nat a t hu, hq]
  rw [h, V0_eq]
  rfl

theorem rd2 (c : Dev nD) (t : Fin (cfgA a).N) (hu : Used a t) (e : Fin 32) (he : (teW a t).toNat = e.val) (x : Fin 2048) (f : Fin 512) (q : Fin 4096) (hq : q.val = (4 + t.val % 4) * 512 + f.val) :
    (iblk m a c (2 : Fin 8) t : Vec Ideal S1x2048x512 .bf16) (ix3 0 x f) = m ((c : Thread nD τ).loc main_arg3) (ix3 e x q) := by
  have h : (iblk m a c (2 : Fin 8) t : Vec Ideal S1x2048x512 .bf16) (ix3 0 x f) = (V m c main_v0 : FVec Ideal S32x2048x4096 .bf16) (ix3 e x q) := by
    show (V m c main_v0 : FVec Ideal S32x2048x4096 .bf16) ((((cfgA a).win (2 : Fin 8)).blk t).view.emb (ix3 0 x f)) = _
    refine congrArg _ (funext fun b => Fin.ext ?_)
    refine (Window.rect_emb_val ((cfgA a).win (2 : Fin 8)) t (ix3 0 x f) b rfl).trans ?_
    match b with
    | ⟨0, _⟩ => show (teW a t).toNat * 1 + 0 = e.val; omega
    | ⟨1, _⟩ => show 0 * 2048 + x.val = x.val; omega
    | ⟨2, _⟩ => show (Scalar.addi 4#32 (Scalar.select (Scalar.cmpi .slt (BitVec.ofNat 32 (crd a t 0).val) (nu a.1)) (BitVec.ofNat 32 (crd a t 1).val) 3#32)).toNat * 512 + f.val = q.val; rw [ch4_nat a t hu, hq]
  rw [h, V0_eq]
  rfl

theorem rd3 (c : Dev nD) (t : Fin (cfgA a).N) (hu : Used a t) (e : Fin 32) (he : (teW a t).toNat = e.val) (f : Fin 512) (q : Fin 4096) (hq : q.val = t.val % 4 * 512 + f.val) :
    (iblk m a c (3 : Fin 8) t : Vec Ideal S1x1x512 .f32) (ix3 0 0 f) = m ((c : Thread nD τ).loc main_arg4) (ix2 e q) := by
  have h : (iblk m a c (3 : Fin 8) t : Vec Ideal S1x1x512 .f32) (ix3 0 0 f) = (V m c main_v1 : FVec Ideal S32x1x4096 .f32) (ix3 e 0 q) := by
    show (V m c main_v1 : FVec Ideal S32x1x4096 .f32) ((((cfgA a).win (3 : Fin 8)).blk t).view.emb (ix3 0 0 f)) = _
    refine congrArg _ (funext fun b => Fin.ext ?_)
    refine (Window.rect_emb_val ((cfgA a).win (3 : Fin 8)) t (ix3 0 0 f) b rfl).trans ?_
    match b with
    | ⟨0, _⟩ => show (teW a t).toNat * 1 + 0 = e.val; omega
    | ⟨1, _⟩ => show 0 * 1 + 0 = 0; omega
    | ⟨2, _⟩ => show (Scalar.select (Scalar.cmpi .slt (BitVec.ofNat 32 (crd a t 0).val) (nu a.1)) (BitVec.ofNat 32 (crd a t 1).val) 3#32).toNat * 512 + f.val = q.val; rw [ch_nat a t hu, hq]
  rw [h, V1_eq, cast4]

theorem rd4 (c : Dev nD) (t : Fin (cfgA a).N) (hu : Used a t) (e : Fin 32) (he : (teW a t).toNat = e.val) (f : Fin 512) (q : Fin 4096) (hq : q.val = (4 + t.val % 4) * 512 + f.val) :
    (iblk m a c (4 : Fin 8) t : Vec Ideal S1x1x512 .f32) (ix3 0 0 f) = m ((c : Thread nD τ).loc main_arg4) (ix2 e q) := by
  have h : (iblk m a c (4 : Fin 8) t : Vec Ideal S1x1x512 .f32) (ix3 0 0 f) = (V m c main_v1 : FVec Ideal S32x1x4096 .f32) (ix3 e 0 q) := by
    show (V m c main_v1 : FVec Ideal S32x1x4096 .f32) ((((cfgA a).win (4 : Fin 8)).blk t).view.emb (ix3 0 0 f)) = _
    refine congrArg _ (funext fun b => Fin.ext ?_)
    refine (Window.rect_emb_val ((cfgA a).win (4 : Fin 8)) t (ix3 0 0 f) b rfl).trans ?_
    match b with
    | ⟨0, _⟩ => show (teW a t).toNat * 1 + 0 = e.val; omega
    | ⟨1, _⟩ => show 0 * 1 + 0 = 0; omega
    | ⟨2, _⟩ => show (Scalar.addi 4#32 (Scalar.select (Scalar.cmpi .slt (BitVec.ofNat 32 (crd a t 0).val) (nu a.1)) (BitVec.ofNat 32 (crd a t 1).val) 3#32)).toNat * 512 + f.val = q.val; rw [ch4_nat a t hu, hq]
  rw [h, V1_eq, cast4]

theorem rd5 (c : Dev nD) (t : Fin (cfgA a).N) (hu : Used a t) (e : Fin 32) (he : (teW a t).toNat = e.val) (f : Fin 512) (d : Fin 2048) (q : Fin 2048) (hq : q.val = t.val % 4 * 512 + f.val) :
    (iblk m a c (5 : Fin 8) t : Vec Ideal S1x512x2048 .bf16) (ix3 0 f d) = m ((c : Thread nD τ).loc main_arg5) (ix3 e q d) := by
  have h : (iblk m a c (5 : Fin 8) t : Vec Ideal S1x512x2048 .bf16) (ix3 0 f d) = (V m c main_v2 : FVec Ideal S32x2048x2048 .bf16) (ix3 e q d) := by
    show (V m c main_v2 : FVec Ideal S32x2048x2048 .bf16) ((((cfgA a).win (5 : Fin 8)).blk t).view.emb (ix3 0 f d)) = _
    refine congrArg _ (funext fun b => Fin.ext ?_)
    refine (Window.rect_emb_val ((cfgA a).win (5 : Fin 8)) t (ix3 0 f d) b rfl).trans ?_
    match b with
    | ⟨0, _⟩ => show (teW a t).toNat * 1 + 0 = e.val; omega
    | ⟨1, _⟩ => show (Scalar.select (Scalar.cmpi .slt (BitVec.ofNat 32 (crd a t 0).val) (nu a.1)) (BitVec.ofNat 32 (crd a t 1).val) 3#32).toNat * 512 + f.val = q.val; rw [ch_nat a t hu, hq]
    | ⟨2, _⟩ => show 0 * 2048 + d.val = d.val; omega
  rw [h, V2_eq]
  rfl

theorem rd6 (c : Dev nD) (t : Fin (cfgA a).N) (hu : Used a t) (e : Fin 32) (he : (teW a t).toNat = e.val) (d : Fin 2048)  :
    (iblk m a c (6 : Fin 8) t : Vec Ideal S1x1x2048 .f32) (ix3 0 0 d) = m ((c : Thread nD τ).loc main_arg6) (ix2 e d) := by
  have h : (iblk m a c (6 : Fin 8) t : Vec Ideal S1x1x2048 .f32) (ix3 0 0 d) = (V m c main_v3 : FVec Ideal S32x1x2048 .f32) (ix3 e 0 d) := by
    show (V m c main_v3 : FVec Ideal S32x1x2048 .f32) ((((cfgA a).win (6 : Fin 8)).blk t).view.emb (ix3 0 0 d)) = _
    refine congrArg _ (funext fun b => Fin.ext ?_)
    refine (Window.rect_emb_val ((cfgA a).win (6 : Fin 8)) t (ix3 0 0 d) b rfl).trans ?_
    match b with
    | ⟨0, _⟩ => show (teW a t).toNat * 1 + 0 = e.val; omega
    | ⟨1, _⟩ => show 0 * 1 + 0 = 0; omega
    | ⟨2, _⟩ => show 0 * 2048 + d.val = d.val; omega
  rw [h, V3_eq, cast2]

end Cert.ExpertsIdeal.Run

end
-- ==== Proof.ExpertsValue.lean ====
/-
  The experts' call ends with the reference's value: a block in use is its expert's feed-forward, the four chunks of the hidden
  axis added up; a block out of use is zero.
-/
module

public import proofs.«01_k».proof.Proof.ExpertsMath

@[expose] public section

set_option maxRecDepth 16384

noncomputable section

open Idealize.ShloMosaic Idealize.ShloMosaic.TcCoe Idealize.SL.Sem
open Idealize.ShloMosaic.Pipeline (Dat Cfg Window)

namespace Cert.ExpertsIdeal.Run

open Cert.ExpertsIdeal Cert.ExpertsIdeal.Gen
open Cert.ExpertsRefIdeal.RefMath (act REF REF_at hid gu ex X)

variable (m : (ℓ : Loc nD τ sig) → Buf (Elt Ideal) ℓ) (a : (pcfg0 (F := Ideal)).Adm)

/-- The hidden entry of a block's token over the argument arrays. -/
abbrev H (c : Dev nD) (te : IVec S288 32) (h : ∀ x, (te x).toNat < 32) (i : Fin 288) (r : Fin 512) (f : Fin 2048) : EReal :=
  hid te h (m ((c : Thread nD τ).loc main_arg2)) (m ((c : Thread nD τ).loc main_arg3)) (m ((c : Thread nD τ).loc main_arg4)) i r f

theorem used_iff (t : Fin (cfgA a).N) : Used a t ↔ (BitVec.ofNat 32 (t.val / 4)).slt (nuW (a.1 1)) = true := by
  unfold Used
  rw [c1_iff, crd0]

variable (te : IVec S288 32) (h : ∀ x, (te x).toNat < 32)

/-- A block's packed rows are its tokens. -/
theorem xb_at (c : Dev nD) (t : Fin (cfgA a).N) (hu : Used a t) (i : Fin 288) (hi : i.val = t.val / 4) (r : Fin 512) (d : Fin 2048) :
    xb m a c t (ix2 r d) = X (m ((c : Thread nD τ).loc main_arg2)) i r d := by
  have hd4 : (hd a t).val / 4 = t.val / 4 := by unfold hd; show (t.val - t.val % 4) / 4 = _; omega
  have hu' : Used a (hd a t) := by rw [used_iff] at hu ⊢; rwa [hd4]
  unfold xb
  rw [XB_at]
  exact rd0 m a c (hd a t) hu' _ _ _ (by rw [hd4, ← hi]; show i.val * 8192 + r.val * 16 + d.val / 128 = i.val * 8192 + (16 * r.val + d.val / 128); omega)

/-- One point's chunk of the down product. -/
theorem part_at (c : Dev nD) (t : Fin (cfgA a).N) (hu : Used a t) (i : Fin 288) (hi : i.val = t.val / 4) (he : teW a t = te (ix1 i)) (j : Fin 4) (hj : j.val = t.val % 4)
    (r : Fin 512) (d : Fin 2048) :
    part0 (xb m a c t) (iblk m a c (1 : Fin 8) t) (iblk m a c (2 : Fin 8) t) (iblk m a c (3 : Fin 8) t) (iblk m a c (4 : Fin 8) t) (iblk m a c (5 : Fin 8) t) (ix2 r d)
      = ∑ f : Fin 512, H m c te h i r ⟨j.val * 512 + f.val, by omega⟩ * m ((c : Thread nD τ).loc main_arg5) (ix3 (ex te h i) ⟨j.val * 512 + f.val, by omega⟩ d) := by
  have he' : (teW a t).toNat = (ex te h i).val := by rw [he]; rfl
  rw [part0_at]
  refine Finset.sum_congr rfl fun f _ => ?_
  rw [rd5 m a c t hu (ex te h i) he' f d ⟨j.val * 512 + f.val, by omega⟩ (by show j.val * 512 + f.val = _; rw [hj]),
    rd3 m a c t hu (ex te h i) he' f ⟨j.val * 512 + f.val, by omega⟩ (by show j.val * 512 + f.val = _; rw [hj]),
    rd4 m a c t hu (ex te h i) he' f ⟨2048 + (j.val * 512 + f.val), by omega⟩ (by show 2048 + (j.val * 512 + f.val) = _; rw [hj]; omega)]
  refine congrArg (· * _) (congrArg₂ act (congrArg (· + _) (Finset.sum_congr rfl fun x _ => ?_)) (congrArg (· + _) (Finset.sum_congr rfl fun x _ => ?_)))
  · rw [xb_at m a c t hu i hi, rd1 m a c t hu (ex te h i) he' x f ⟨j.val * 512 + f.val, by omega⟩ (by show j.val * 512 + f.val = _; rw [hj])]
  · rw [xb_at m a c t hu i hi, rd2 m a c t hu (ex te h i) he' x f ⟨2048 + (j.val * 512 + f.val), by omega⟩ (by show 2048 + (j.val * 512 + f.val) = _; rw [hj]; omega)]

/-- After a block's last point the running sum is the whole down product. -/
theorem acc_at (c : Dev nD) (t : Fin (cfgA a).N) (h3 : t.val % 4 = 3) (hu : Used a t) (i : Fin 288) (hi : i.val = t.val / 4)
    (he : ∀ u : Fin (cfgA a).N, u.val / 4 = t.val / 4 → teW a u = te (ix1 i)) (r : Fin 512) (d : Fin 2048) :
    acc m a c t.val t.isLt (ix2 r d)
      = ∑ f : Fin 2048, H m c te h i r f * m ((c : Thread nD τ).loc main_arg5) (ix3 (ex te h i) f d) := by
  have huu : ∀ u : Fin (cfgA a).N, u.val / 4 = t.val / 4 → Used a u := fun u e => by rw [used_iff] at hu ⊢; rwa [e]
  have hN := t.isLt
  let t0 : Fin (cfgA a).N := ⟨t.val - 1 - 1 - 1, by omega⟩
  let t1 : Fin (cfgA a).N := ⟨t.val - 1 - 1, by omega⟩
  let t2 : Fin (cfgA a).N := ⟨t.val - 1, by omega⟩
  have e0 : t0.val / 4 = t.val / 4 := by show (t.val - 1 - 1 - 1) / 4 = _; omega
  have e1 : t1.val / 4 = t.val / 4 := by show (t.val - 1 - 1) / 4 = _; omega
  have e2 : t2.val / 4 = t.val / 4 := by show (t.val - 1) / 4 = _; omega
  have j0 : t0.val % 4 = 0 := by show (t.val - 1 - 1 - 1) % 4 = _; omega
  have j1 : t1.val % 4 = 1 := by show (t.val - 1 - 1) % 4 = _; omega
  have j2 : t2.val % 4 = 2 := by show (t.val - 1) % 4 = _; omega
  rw [acc_step m a c t (by omega), partS_at, part_at m a te h c t hu i hi (he t rfl) 3 h3.symm]
  rw [show acc m a c (t.val - 1) (lt_of_le_of_lt (Nat.sub_le _ _) t.isLt) = acc m a c t2.val t2.isLt from rfl,
    acc_step m a c t2 (by omega), partS_at, part_at m a te h c t2 (huu _ e2) i (hi.trans e2.symm) (he t2 e2) 2 j2.symm]
  rw [show acc m a c (t2.val - 1) (lt_of_le_of_lt (Nat.sub_le _ _) t2.isLt) = acc m a c t1.val t1.isLt from rfl,
    acc_step m a c t1 (by omega), partS_at, part_at m a te h c t1 (huu _ e1) i (hi.trans e1.symm) (he t1 e1) 1 j1.symm]
  rw [show acc m a c (t1.val - 1) (lt_of_le_of_lt (Nat.sub_le _ _) t1.isLt) = acc m a c t0.val t0.isLt from rfl,
    acc_start m a c t0 j0, part_at m a te h c t0 (huu _ e0) i (hi.trans e0.symm) (he t0 e0) 0 j0.symm]
  rw [← Fin.sum_mul_add_congr (L := 2048) (S := 4) (n := 512)
    (F := fun j f => H m c te h i r ⟨j.val * 512 + f.val, by omega⟩ * m ((c : Thread nD τ).loc main_arg5) (ix3 (ex te h i) ⟨j.val * 512 + f.val, by omega⟩ d))
    (fun _ _ _ => rfl)]
  rw [Fin.sum_univ_four]

theorem clampV_at (n : IVec S1 32) (i : Fin 288) :
    clampV n (ix1 i) = Scalar.minsi (BitVec.ofNat 32 i.val) (Scalar.maxsi (Scalar.subi (n (ix1 0)) 1#32) 0#32) := by
  pointwise [clampV]
  rfl

theorem idxV_at (n : IVec S1 32) (i : Fin 288) :
    idxV n (ix2 i 0) = Scalar.select (Scalar.cmpi .slt (clampV n (ix1 i)) 0#32) (Scalar.addi (clampV n (ix1 i)) 288#32) (clampV n (ix1 i)) := by
  pointwise [idxV]
  rfl

theorem sel_nonneg (v w : BitVec 32) (k : ℕ) (hk : k < 288) (hv : v.toNat = k) : (Scalar.select (Scalar.cmpi .slt v 0#32) w v).toNat = k := by
  have e : v.slt 0#32 = false := by
    simp only [BitVec.slt, BitVec.toInt_eq_toNat_cond, decide_eq_false_iff_not]
    rw [hv, if_pos (by omega)]
    simp
  show (Scalar.select (BitVec.ofBool (v.slt 0#32)) _ _ : BitVec 32).toNat = _
  rw [e]
  exact hv

theorem clamp_nat (v : BitVec 32) (k : ℕ) (hk : k < 288) (hv : v.toNat = k) : min v.toInt.toNat (288 - 1) = k := by
  rw [BitVec.toInt_eq_toNat_cond, hv, if_pos (by omega)]
  omega

/-- The host gather's table at a block in use is the block's own expert. -/
theorem table_at (te : IVec S288 32) (n : IVec S1 32) (i : Fin 288) (hu : (BitVec.ofNat 32 i.val).slt (n (ix1 0)) = true) :
    Host.gather gather_S288_S288x1_S288_n_0_n_n_0_1_1 te (idxV n) (ix1 i) = te (ix1 i) := by
  have hc : (clampV n (ix1 i)).toNat = i.val := by
    rw [clampV_at]
    exact slt_clamp i _ hu
  have hx : (idxV n (ix2 i 0)).toNat = i.val := by
    rw [idxV_at]
    exact sel_nonneg _ _ _ i.isLt hc
  have hsi : ∀ k, (gather_S288_S288x1_S288_n_0_n_n_0_1_1).siIdx (ix1 i) k = (ix2 i 0 : S288x1.Idx) := by
    intro k
    funext b
    refine Fin.ext ?_
    match b with
    | ⟨0, _⟩ => rfl
    | ⟨1, _⟩ => exact Nat.lt_one_iff.1 k.isLt
  unfold Host.gather
  congr 1
  funext b
  refine Fin.ext ?_
  show (gather_S288_S288x1_S288_n_0_n_n_0_1_1).start (ix1 i) (idxV n) b + (gather_S288_S288x1_S288_n_0_n_n_0_1_1).batchCoord (ix1 i) b + (gather_S288_S288x1_S288_n_0_n_n_0_1_1).offCoord (ix1 i) b = _
  rw [GatherDims.batchCoord_eq_zero _ _ _ List.not_mem_nil, Nat.add_zero]
  match b with
  | ⟨0, q⟩ =>
    unfold GatherDims.start
    rw [dif_pos (show (⟨0, q⟩ : Fin S288.rank) ∈ (gather_S288_S288x1_S288_n_0_n_n_0_1_1).startIndexMap from List.mem_singleton.mpr rfl), hsi]
    exact (congrArg (· + 0) (clamp_nat _ _ i.isLt hx)).trans rfl

variable (hw : ∀ x : S288.Idx, ((m (((0 : Dev nD) : Thread nD τ).loc main_arg0) : IVec S288 32) x).toNat < 32)

theorem emb7 (t : Fin (cfgA a).N) (p : Fin 8192) (l : Fin 128) (q : Fin 2359296) (hq : q.val = t.val / 4 * 8192 + p.val) :
    (((cfgA a).win (7 : Fin 8)).blk t).view.emb (ix2 p l) = (ix2 q l : S2359296x128.Idx) := by
  funext b
  refine Fin.ext ?_
  refine (Window.rect_emb_val ((cfgA a).win (7 : Fin 8)) t (ix2 p l) b rfl).trans ?_
  match b with
  | ⟨0, _⟩ =>
    show (BitVec.ofNat 32 (crd a t 0).val).toNat * 8192 + p.val = q.val
    have e : (BitVec.ofNat 32 (crd a t 0).val).toNat = (crd a t 0).val := by
      rw [BitVec.toNat_ofNat]
      have h2 : (crd a t 0).val < 288 := (crd a t 0).isLt
      omega
    rw [e, crd0, hq]
  | ⟨1, _⟩ => show 0 * 128 + l.val = l.val; omega

theorem N_eq : (cfgA a).N = 1152 := N_0

theorem nuW_at (n : IVec S1 32) : nuW (F := Ideal) n = n (ix1 0) :=
  congrArg n (funext fun b => Fin.ext (by
    match b with
    | ⟨0, _⟩ => rfl))

theorem ex_val (i : Fin 288) : (ex te h i).val = (te (ix1 i)).toNat := rfl

/-- What a block's last point stores is the reference's term there, the tables being what they are at a block in use. -/
theorem stored (te : IVec S288 32) (h : ∀ x, (te x).toNat < 32) (n : IVec S1 32) (c : Dev nD) (hn : nuW (F := Ideal) (a.1 1) = n (ix1 0))
    (hte : ∀ u : Fin (cfgA a).N, Used a u → ∀ i : Fin 288, i.val = u.val / 4 → teW a u = te (ix1 i))
    (t : Fin (cfgA a).N) (hf : t.val % 4 = 3) (p : Fin 8192) (l : Fin 128) (q : Fin 2359296) (hq : q.val = t.val / 4 * 8192 + p.val) :
    outv m a c t (ix2 p l)
    = REF te n (m ((c : Thread nD τ).loc main_arg2)) (m ((c : Thread nD τ).loc main_arg3))
        (m ((c : Thread nD τ).loc main_arg4)) (m ((c : Thread nD τ).loc main_arg5)) (m ((c : Thread nD τ).loc main_arg6)) (ix2 q l) := by
  have hN : t.val < 1152 := lt_of_lt_of_eq t.isLt (N_eq _)
  have hp := p.isLt
  have hi : q.val / 8192 = t.val / 4 := by omega
  rw [REF_at _ _ _ _ _ _ _ h]
  unfold outv
  by_cases hu : Used a t
  · have hs : (BitVec.ofNat 32 (q.val / 8192)).slt (n (ix1 0)) = true := by
      rw [hi, ← hn]
      exact (used_iff _ t).1 hu
    have huu : ∀ u : Fin (cfgA a).N, u.val / 4 = t.val / 4 → Used a u := fun u e => by rw [used_iff] at hu ⊢; rwa [e]
    have e1 : (⟨p.val / 16, by omega⟩ : Fin 512) = ⟨q.val / 16 % 512, by omega⟩ := Fin.ext (by show p.val / 16 = q.val / 16 % 512; omega)
    have e2 : (⟨128 * (p.val % 16) + l.val, by omega⟩ : Fin 2048) = ⟨q.val % 16 * 128 + l.val, by omega⟩ := Fin.ext (by show 128 * (p.val % 16) + l.val = q.val % 16 * 128 + l.val; omega)
    rw [if_pos hu, OUT_at, acc_at m a te h c t hf hu ⟨q.val / 8192, by omega⟩ hi (fun u e => hte u (huu u e) _ (hi.trans e.symm)),
      rd6 m a c t hu (ex te h ⟨q.val / 8192, by omega⟩) (by rw [hte t hu ⟨q.val / 8192, by omega⟩ hi, ex_val]), e1, e2]
    show _ = Scalar.select (BitVec.ofBool _) _ _
    rw [hs]
    rfl
  · have hs : (BitVec.ofNat 32 (q.val / 8192)).slt (n (ix1 0)) = false := by
      rw [hi, ← hn]
      exact Bool.eq_false_iff.2 fun e => hu ((used_iff _ t).2 e)
    rw [if_neg hu, pay10_at]
    show _ = Scalar.select (BitVec.ofBool _) _ _
    rw [hs]
    rfl

theorem hn_at : nuW (F := Ideal) ((aOf m hw).1 1) = (m (((0 : Dev nD) : Thread nD τ).loc main_arg1) : IVec S1 32) (ix1 0) :=
  (nuW_at _).trans (congrFun (V_arg1 m 0) (ix1 0))

theorem te_at (t : Fin (cfgA (aOf m hw)).N) (hu : Used (aOf m hw) t) (i : Fin 288) (hi : i.val = t.val / 4) :
    teW (aOf m hw) t = (m (((0 : Dev nD) : Thread nD τ).loc main_arg0) : IVec S288 32) (ix1 i) := by
  have hu' := (used_iff _ t).1 hu
  rw [hn_at, ← hi] at hu'
  exact (teW_eq (aOf m hw) t i hi).trans ((congrFun (v16_eq m 0) (ix1 i)).trans (table_at _ _ _ hu'))

theorem cover (k : S2359296x128.Idx) : ∃ t : Fin (cfgA a).N, ((cfgA a).win (7 : Fin 8)).flush t = true ∧ k ∈ (((cfgA a).win (7 : Fin 8)).blk t).view.set := by
  obtain ⟨p, l, rfl⟩ : ∃ (p : Fin 2359296) (l : Fin 128), k = ix2 p l := ⟨k 0, k 1, (ix2_eta k).symm⟩
  let t : Fin (cfgA a).N := ⟨p.val / 8192 * 4 + 3, lt_of_lt_of_eq (by omega : p.val / 8192 * 4 + 3 < 1152) (N_eq _).symm⟩
  refine ⟨t, ?_, ?_⟩
  · rw [flush7, decide_eq_true_eq]
    show (p.val / 8192 * 4 + 3) % 4 = 3
    omega
  · have e := emb7 a t ⟨p.val % 8192, by omega⟩ l p (by show p.val = (p.val / 8192 * 4 + 3) / 4 * 8192 + p.val % 8192; omega)
    exact e ▸ View.emb_mem_set _ _

/-- Every point that stores leaves the reference's block. -/
theorem flushed_at (te : IVec S288 32) (h : ∀ x, (te x).toNat < 32) (n : IVec S1 32) (c : Dev nD) (hn : nuW (F := Ideal) (a.1 1) = n (ix1 0))
    (hte : ∀ u : Fin (cfgA a).N, Used a u → ∀ i : Fin 288, i.val = u.val / 4 → teW a u = te (ix1 i))
    (t : Fin (cfgA a).N) (hf : ((cfgA a).win (7 : Fin 8)).flush t = true) (y : S8192x128.Idx) :
    outv m a c t y
    = REF te n (m ((c : Thread nD τ).loc main_arg2)) (m ((c : Thread nD τ).loc main_arg3))
        (m ((c : Thread nD τ).loc main_arg4)) (m ((c : Thread nD τ).loc main_arg5)) (m ((c : Thread nD τ).loc main_arg6)) ((((cfgA a).win (7 : Fin 8)).blk t).view.emb y) := by
  have hN : t.val < 1152 := lt_of_lt_of_eq t.isLt (N_eq _)
  obtain ⟨p, l, rfl⟩ : ∃ (p : Fin 8192) (l : Fin 128), y = ix2 p l := ⟨y 0, y 1, (ix2_eta y).symm⟩
  have hf' : t.val % 4 = 3 := by rwa [flush7, decide_eq_true_eq] at hf
  have hq : t.val / 4 * 8192 + p.val < 2359296 := by omega
  exact (stored m a te h n c hn hte t hf' p l ⟨_, hq⟩ rfl).trans (congrArg (REF te n _ _ _ _ _) (emb7 a t p l ⟨_, hq⟩ rfl).symm)

theorem final_of (te : IVec S288 32) (h : ∀ x, (te x).toNat < 32) (n : IVec S1 32) (c : Dev nD) (hn : nuW (F := Ideal) (a.1 1) = n (ix1 0))
    (hte : ∀ u : Fin (cfgA a).N, Used a u → ∀ i : Fin 288, i.val = u.val / 4 → teW a u = te (ix1 i)) :
    (dats m a 0 c).arrAt (7 : Fin 8) (cfgA a).N
    = REF te n (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m a 0 c).arrAt_eq_of_emb (7 : Fin 8) _ (fun t hf y => ?_) (cover a)
  exact flushed_at m a te h n c hn hte t hf y

/-- The result array is the reference's term over the arguments. -/
theorem final (c : Dev nD) : (dats m (aOf m hw) 0 c).arrAt (7 : Fin 8) (cfgA (aOf m hw)).N
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  obtain rfl := devs c
  exact final_of m (aOf m hw) _ hw _ 0 (hn_at m hw) (te_at m hw)

end Cert.ExpertsIdeal.Run

end
-- ==== Proof.ExpertsClaims.lean ====
/-
  The claims about the experts' call: the frames under the range of the experts, nothing rewritten, and the value.
-/
module

public import proofs.«01_k».proof.Defs
public import proofs.«01_k».proof.Proof.Gen.ExpertsRefIdeal.Run
public import proofs.«01_k».proof.Proof.Gen.Pre_experts_in_range
public import proofs.«01_k».proof.Proof.ExpertsEnd
public import proofs.«01_k».proof.Proof.ExpertsValue
public import Idealize.ShloMosaic.Lib.Quiescent

@[expose] public section

noncomputable section

open Idealize.ShloMosaic Idealize.ShloMosaic.TcCoe Idealize.SL.Sem

namespace Cert.Proof.ExpertsClaims

theorem word_range (x : BitVec 32) (h1 : (0#32).sle x = true) (h2 : x.slt 32#32 = true) : x.toNat < 32 := by
  have h1' : (0 : Int) ≤ x.toInt := by simpa [BitVec.sle] using h1
  have h2' : x.toInt < 32 := by simpa [BitVec.slt] using h2
  rw [BitVec.toInt_eq_toNat_cond] at h1' h2'
  have := x.isLt
  split at h1' <;> omega

/-- What the precondition says of each expert's number. -/
theorem range {F : FTy → Type} [FloatOps F] (a0 : IVec Cert.Pre_experts_in_range.S288 32) (a1) (a2) (a3) (a4) (a5) (a6)
    (h : Cert.Pre_experts_in_range.fn (F := F) a0 a1 a2 a3 a4 a5 a6 = fun _ => 1#1) (x : Cert.Pre_experts_in_range.S288.Idx) : (a0 x).toNat < 32 := by
  have e : BitVec.ofBool ((0#32).sle (a0 x)) &&& BitVec.ofBool ((a0 x).slt 32#32) = 1#1 := congrFun h x
  have d : ∀ p q : Bool, BitVec.ofBool p &&& BitVec.ofBool q = 1#1 → p = true ∧ q = true := by decide
  exact word_range _ (d _ _ e).1 (d _ _ e).2

theorem frame_p : Cert.quiescent_Experts := fun m ρ h =>
  (θ_run Cert.Experts.defs _ _).mono (fun r h => ⟨fun c => (h.1 c).2, h.2⟩)
    (Cert.Experts.Run.run_all (F := Bits) m ρ (range _ _ _ _ _ _ _ (h 0)))
theorem frame_pi : Cert.quiescent_ExpertsIdeal := fun m ρ h =>
  (θ_run Cert.ExpertsIdeal.defs _ _).mono (fun r h => ⟨fun c => (h.1 c).2, h.2⟩)
    (Cert.ExpertsIdeal.Run.run_all (F := Ideal) m ρ (range _ _ _ _ _ _ _ (h 0)))
theorem frame_ri : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)
theorem frame_ri' : Cert.quiescent_ExpertsRefIdeal_pre_experts_in_range := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)
theorem preserves : Cert.preserves_Experts_ExpertsIdeal := trivial

/-- From memories that agree on the arguments, the experts' numbers in range, both programs end with the reference's term in the result array. -/
theorem algebraic : Cert.algebraic_ExpertsIdeal_ExpertsRefIdeal := by
  intro m ρ m' ρ' hpre hagree
  have hw := range _ _ _ _ _ _ _ (hpre 0)
  refine ⟨_, (θ_run Cert.ExpertsIdeal.defs _ _).mono (fun _ h c => ⟨(h.1 c).1.trans (Cert.ExpertsIdeal.Run.final m hw c), (h.1 c).2⟩)
    (Cert.ExpertsIdeal.Run.run_all (F := Ideal) m ρ hw), ?_⟩
  refine (θ_run Cert.ExpertsRefIdeal.defs _ _).mono (fun _ h c => ⟨(h c).1.trans ((Cert.ExpertsRefIdeal.RefMath.res_eq m' c).trans ?_), (h c).2⟩)
    (Cert.ExpertsRefIdeal.Value.run (F := Ideal) m' ρ')
  obtain ⟨h0, h1, h2, h3, h4, h5, h6⟩ := hagree c
  rw [h0, h1, h2, h3, h4, h5, h6]

end Cert.Proof.ExpertsClaims

end
-- ==== Proof.InprojValue.lean ====
/-
  The value of the input projection: the pipelined kernel leaves, at every token row and output column, the
  product of the normalised row with the weight column plus the bias, which is what the reference computes.
  The kernel normalises a block of 1024 rows once, at the first of seven column blocks, and carries the
  normalised rows in a scratch buffer over the other six.
-/
module

public import proofs.«01_k».proof.Defs
public import proofs.«01_k».proof.Proof.Gen.InprojIdeal.Value
public import proofs.«01_k».proof.Proof.Gen.InprojRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InprojIdeal.RefValue

open Cert.InprojIdeal Cert.InprojIdeal.Gen

variable (m : (ℓ : Loc nD τ sig) → Buf (Elt Ideal) ℓ)

/-- The windows' block indices at a point, in closed form. -/
theorem idx : ∀ t : Fin cfg0.N, win0_0.index t = ![t.val / 7, 0] ∧ win0_1.index t = ![0, 0]
    ∧ win0_2.index t = ![0, t.val % 7] ∧ win0_3.index t = ![0, t.val % 7] ∧ win0_4.index t = ![t.val / 7, t.val % 7] :=
  (by decide +kernel : ∀ t : Fin grid0.N, _)

/-- The normalised rows of a point's block. -/
abbrev HN (c : Dev nD) (t : Fin cfg0.N) : FVec Ideal S1024x2048 .bf16 := k0_pay1 (iblk m c 0 t) (iblk m c 1 t)

/-- The block of rows does not move within a run of seven points. -/
theorem iblk0_hold (c : Dev nD) (t u : Fin cfg0.N) (h : t.val / 7 = u.val / 7) :
    (iblk m c 0 t : Vec Ideal S1024x2048 .f32) = iblk m c 0 u := by
  funext y
  blk_ext [iblk, idx t, idx u]

theorem iblk1_hold (c : Dev nD) (t u : Fin cfg0.N) :
    (iblk m c 1 t : Vec Ideal S1x2048 .f32) = iblk m c 1 u := by
  funext y
  blk_ext [iblk, idx t, idx u]

/-- The carried scratch holds the normalised rows of the point's own block, after every point. -/
theorem scratch (c : Dev nD) : ∀ (n : ℕ) (hn : n < cfg0.N), (outsAt0 m c n hn).2 = HN m c ⟨n, hn⟩ := by
  intro n
  induction n with
  | zero =>
    intro hn
    rw [outsAt0_A m c ⟨0, hn⟩ (Nat.zero_mod _)]
    frame_out
  | succ n ih =>
    intro hn
    by_cases h0 : (n + 1) % 7 = 0
    · rw [outsAt0_A m c ⟨n + 1, hn⟩ h0]
      frame_out
    · rw [outsAt0_B m c ⟨n + 1, hn⟩ h0]
      show (outsAt0 m c n _).2 = _
      rw [ih]
      show k0_pay1 (F := Ideal) _ _ = k0_pay1 _ _
      rw [iblk0_hold m c ⟨n, by omega⟩ ⟨n + 1, hn⟩ (by show n / 7 = (n + 1) / 7; omega), iblk1_hold m c ⟨n, by omega⟩ ⟨n + 1, hn⟩]

/-- What a point leaves in the result's staging buffer. -/
theorem out (c : Dev nD) (t : Fin cfg0.N) :
    (outsAt0 m c t.val t.isLt).1 = k0_pay2 (HN m c t) (iblk m c 2 t) (iblk m c 3 t) := by
  by_cases h0 : t.val % 7 = 0
  · rw [outsAt0_A m c t h0]
    frame_out
  · rw [outsAt0_B m c t h0]
    frame_out
    simp only [read_unread_whole]
    have h := scratch m c (t.val - 1) (Nat.lt_of_le_of_lt (Nat.sub_le _ _) t.isLt)
    have e : HN m c ⟨t.val - 1, Nat.lt_of_le_of_lt (Nat.sub_le _ _) t.isLt⟩ = HN m c t :=
      congrArg₂ k0_pay1 (iblk0_hold m c ⟨t.val - 1, _⟩ t (by show (t.val - 1) / 7 = t.val / 7; omega)) (iblk1_hold m c ⟨t.val - 1, _⟩ t)
    exact congrArg (fun v => k0_pay2 v (iblk m c 2 t) (iblk m c 3 t)) (h.trans e)

open Cert.InprojRefIdeal.Gen in
/-- The reference's term over the four argument arrays. -/
abbrev REF (X : FVec Ideal Cert.InprojRefIdeal.S8x4096x2048 .f32) (g : FVec Ideal Cert.InprojRefIdeal.S2048 .f32)
    (W : FVec Ideal Cert.InprojRefIdeal.S2048x3584 .f32) (b : FVec Ideal Cert.InprojRefIdeal.S3584 .f32) : FVec Ideal Cert.InprojRefIdeal.S32768x3584 .f32 :=
  shapeCast _ (addf (Host.dotGeneral Cert.InprojRefIdeal.dot_S8x4096x2048_S2048x3584_S8x4096x3584_2_0_01_1_n_n none (mulf (mulf X (broadcastInDim Cert.InprojRefIdeal.S8x4096x2048 ![0, 1, 2] bcast_S8x4096x1_S8x4096x2048_0_1_2 (Host.rsqrt (addf (Host.divf (broadcastInDim Cert.InprojRefIdeal.S8x4096x1 ![0, 1] bcast_S8x4096_S8x4096x1_0_1 (Host.reduceAdd (mulf X X) (constant Cert.InprojRefIdeal.S_ .f32 0x00000000#32) reducesTo_S8x4096x2048_S8x4096_d2 h_S_)) (broadcastInDim Cert.InprojRefIdeal.S8x4096x1 ![] bcast_S_S8x4096x1 (constant Cert.InprojRefIdeal.S_ .f32 0x45000000#32))) (broadcastInDim Cert.InprojRefIdeal.S8x4096x1 ![] bcast_S_S8x4096x1 (constant Cert.InprojRefIdeal.S_ .f32 0x358637BD#32)))))) (broadcastInDim Cert.InprojRefIdeal.S8x4096x2048 ![0, 1, 2] bcast_S1x1x2048_S8x4096x2048_0_1_2 (broadcastInDim Cert.InprojRefIdeal.S1x1x2048 ![2] bcast_S2048_S1x1x2048_2 g))) W) (broadcastInDim Cert.InprojRefIdeal.S8x4096x3584 ![0, 1, 2] bcast_S1x1x3584_S8x4096x3584_0_1_2 (broadcastInDim Cert.InprojRefIdeal.S1x1x3584 ![2] bcast_S3584_S1x1x3584_2 b))) shapeCasts_S8x4096x3584_S32768x3584

/-- A token's row, numbered over both axes. -/
theorem cast_at (X : FVec Ideal S8x4096x2048 .f32) (r : Fin 32768) (x : Fin 2048) (p : Fin 8) (q : Fin 4096) (h : p.val * 4096 + q.val = r.val) :
    shapeCast S32768x2048 X Gen.shapeCasts_S8x4096x2048_S32768x2048 (ix2 r x) = X (ix3 p q x) := by
  have hp : (⟨r.val / 4096, by omega⟩ : Fin 8) = p := Fin.ext (by show r.val / 4096 = p.val; omega)
  have hs : (⟨r.val % 4096, by omega⟩ : Fin 4096) = q := Fin.ext (by show r.val % 4096 = q.val; omega)
  pointwise
  simp only [hp, hs]

/-- The rows of a point's block, read off the argument. -/
theorem rd0 (c : Dev nD) (t : Fin cfg0.N) (a : Fin 1024) (x : Fin 2048) (p : Fin 8) (q : Fin 4096)
    (h : p.val * 4096 + q.val = t.val / 7 * 1024 + a.val) :
    (iblk m c 0 t : Vec Ideal S1024x2048 .f32) (ix2 a x) = m ((c : Thread nD τ).loc main_arg0) (ix3 p q x) := by
  have hN : t.val < 224 := lt_of_lt_of_eq t.isLt (show cfg0.N = 224 from N_0)
  have hV : (V m c main_v0 : FVec Ideal S32768x2048 .f32) = shapeCast S32768x2048 (m ((c : Thread nD τ).loc main_arg0)) Gen.shapeCasts_S8x4096x2048_S32768x2048 := by
    entry_read
    rfl
  show (V m c main_v0 : FVec Ideal S32768x2048 .f32) (((cfg0.win 0).blk t).view.emb (ix2 a x)) = _
  have e : ((cfg0.win 0).blk t).view.emb (ix2 a x) = (ix2 ⟨t.val / 7 * 1024 + a.val, by omega⟩ x : S32768x2048.Idx) := by
    blk_ext [idx t]
  rw [hV, e]
  exact cast_at _ _ _ _ _ h

/-- The gain. -/
theorem rd1 (c : Dev nD) (t : Fin cfg0.N) (x : Fin 2048) :
    (iblk m c 1 t : Vec Ideal S1x2048 .f32) (ix2 0 x) = m ((c : Thread nD τ).loc main_arg1) (ix1 x) := by
  have hV : (V m c main_v1 : FVec Ideal S1x2048 .f32) = broadcastInDim S1x2048 ![1] Gen.bcast_S2048_S1x2048_1 (m ((c : Thread nD τ).loc main_arg1)) := by
    entry_read
    rfl
  show (V m c main_v1 : FVec Ideal S1x2048 .f32) (((cfg0.win 1).blk t).view.emb (ix2 0 x)) = _
  have e : ((cfg0.win 1).blk t).view.emb (ix2 0 x) = (ix2 0 x : S1x2048.Idx) := by
    blk_ext [idx t]
  rw [hV, e]
  pointwise

/-- The weight's columns. -/
theorem rd2 (c : Dev nD) (t : Fin cfg0.N) (x : Fin 2048) (b : Fin 512) (q : Fin 3584) (h : q.val = t.val % 7 * 512 + b.val) :
    (iblk m c 2 t : Vec Ideal S2048x512 .bf16) (ix2 x b) = m ((c : Thread nD τ).loc main_arg2) (ix2 x q) := by
  have hV : (V m c main_v2 : FVec Ideal S2048x3584 .bf16) = (show FVec Ideal S2048x3584 .bf16 from truncf .bf16 (show FVec Ideal S2048x3584 .f32 from m ((c : Thread nD τ).loc main_arg2)) Gen.bitsLt_bf16_f32) := by
    entry_read
    rfl
  show (V m c main_v2 : FVec Ideal S2048x3584 .bf16) (((cfg0.win 2).blk t).view.emb (ix2 x b)) = _
  have e : ((cfg0.win 2).blk t).view.emb (ix2 x b) = (ix2 x q : S2048x3584.Idx) := by
    blk_ext [idx t]
  rw [hV, e]
  pointwise

/-- The bias. -/
theorem rd3 (c : Dev nD) (t : Fin cfg0.N) (b : Fin 512) (q : Fin 3584) (h : q.val = t.val % 7 * 512 + b.val) :
    (iblk m c 3 t : Vec Ideal S1x512 .f32) (ix2 0 b) = m ((c : Thread nD τ).loc main_arg3) (ix1 q) := by
  have hV : (V m c main_v3 : FVec Ideal S1x3584 .f32) = broadcastInDim S1x3584 ![1] Gen.bcast_S3584_S1x3584_1 (m ((c : Thread nD τ).loc main_arg3)) := by
    entry_read
    rfl
  show (V m c main_v3 : FVec Ideal S1x3584 .f32) (((cfg0.win 3).blk t).view.emb (ix2 0 b)) = _
  have e : ((cfg0.win 3).blk t).view.emb (ix2 0 b) = (ix2 0 q : S1x3584.Idx) := by
    blk_ext [idx t]
  rw [hV, e]
  pointwise

/-- The reference's term at coordinates. -/
theorem REF_at (X g W b) (r : Fin 32768) (q : Fin 3584) (p : Fin 8) (s : Fin 4096) (h : p.val * 4096 + s.val = r.val) :
    REF X g W b (ix2 r q) = ∑ x : Fin 2048, X (ix3 p s x) * Ideal.rsqrt (Ideal.div (∑ x : Fin 2048, X (ix3 p s x) * X (ix3 p s x)) (Ideal.ofBits FTy.f32 1157627904#32) + Ideal.ofBits FTy.f32 897988541#32) * g (ix1 x) * W (ix2 x q) + b (ix1 q) := by
  have hp : (⟨r.val / 4096, by omega⟩ : Fin 8) = p := Fin.ext (by show r.val / 4096 = p.val; omega)
  have hs : (⟨r.val % 4096, by omega⟩ : Fin 4096) = s := Fin.ext (by show r.val % 4096 = s.val; omega)
  pointwise [REF]
  simp only [hp, hs]

/-- What a point stores at an index of its block is the reference's term at the array's index. -/
theorem point (c : Dev nD) (t : Fin cfg0.N) (y : S1024x512.Idx) :
    k0_pay2 (F := Ideal) (HN m c t) (iblk m c 2 t) (iblk m c 3 t) y
      = REF (m ((c : Thread nD τ).loc main_arg0)) (m ((c : Thread nD τ).loc main_arg1)) (m ((c : Thread nD τ).loc main_arg2)) (m ((c : Thread nD τ).loc main_arg3)) (((cfg0.win 4).blk t).view.emb y) := by
  have hN : t.val < 224 := lt_of_lt_of_eq t.isLt (show cfg0.N = 224 from N_0)
  obtain ⟨a, b, rfl⟩ : ∃ (a : Fin 1024) (b : Fin 512), y = ix2 a b := ⟨y 0, y 1, eq_ix2 y⟩
  have e : ((cfg0.win 4).blk t).view.emb (ix2 a b) = (ix2 ⟨t.val / 7 * 1024 + a.val, by omega⟩ ⟨t.val % 7 * 512 + b.val, by omega⟩ : S32768x3584.Idx) := by
    blk_ext [idx t]
  rw [e, REF_at (p := ⟨(t.val / 7 * 1024 + a.val) / 4096, by omega⟩) (s := ⟨(t.val / 7 * 1024 + a.val) % 4096, by omega⟩) (h := by show _ / 4096 * 4096 + _ % 4096 = t.val / 7 * 1024 + a.val; omega)]
  pointwise [k0_pay2, k0_pay1, HN]
  simp only [rd1, rd0 m c t a _ ⟨(t.val / 7 * 1024 + a.val) / 4096, by omega⟩ ⟨(t.val / 7 * 1024 + a.val) % 4096, by omega⟩ (by show _ / 4096 * 4096 + _ % 4096 = t.val / 7 * 1024 + a.val; omega),
    rd2 m c t _ b ⟨t.val % 7 * 512 + b.val, by omega⟩ rfl, rd3 m c t b ⟨t.val % 7 * 512 + b.val, by omega⟩ rfl]

/-- The result array after the run is the reference's term. -/
theorem final (c : Dev nD) : (dats m 0 c).arrAt 4 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, out]
  exact point m c t y

end Cert.InprojIdeal.RefValue

end
-- ==== Proof.InprojClaims.lean ====
/-
  The claims about the input projection: the frames, nothing rewritten, and the value.
-/
module

public import proofs.«01_k».proof.Defs
public import proofs.«01_k».proof.Proof.Gen.Inproj.Frame
public import proofs.«01_k».proof.Proof.Gen.InprojRefIdeal.Run
public import proofs.«01_k».proof.Proof.InprojValue
public import Idealize.ShloMosaic.Lib.Quiescent

@[expose] public section

noncomputable section

open Idealize.ShloMosaic Idealize.ShloMosaic.TcCoe Idealize.SL.Sem

namespace Cert.Proof.InprojClaims

theorem frame_p : Cert.quiescent_Inproj := fun m ρ _ => Cert.Inproj.Gen.frame m ρ
theorem frame_pi : Cert.quiescent_InprojIdeal := fun m ρ _ => Cert.InprojIdeal.Gen.frame m ρ
theorem frame_ri : Cert.quiescent_InprojRefIdeal := fun m ρ _ =>
  (θ_run Cert.InprojRefIdeal.defs _ _).mono (fun r h => ⟨fun c => (h c).2, Idealize.ShloMosaic.sem_eq_zero_of_no_sems (by decide) r.2⟩)
    (Cert.InprojRefIdeal.Value.run (F := Ideal) m ρ)
theorem preserves : Cert.preserves_Inproj_InprojIdeal := trivial

/-- From memories that agree on the arguments both programs end with the reference's term in the result array. -/
theorem algebraic : Cert.algebraic_InprojIdeal_InprojRefIdeal := by
  intro m ρ m' ρ' _ hagree
  refine ⟨_, (θ_run Cert.InprojIdeal.defs _ _).mono (fun _ h c => ⟨(h c).1.trans (Cert.InprojIdeal.RefValue.final m c), (h c).2⟩)
    (Cert.InprojIdeal.Value.run_blocks (F := Ideal) m ρ), ?_⟩
  refine (θ_run Cert.InprojRefIdeal.defs _ _).mono (fun _ h c => ⟨(h c).1.trans ?_, (h c).2⟩)
    (Cert.InprojRefIdeal.Value.run (F := Ideal) m' ρ')
  rw [(hagree c).1, (hagree c).2.1, (hagree c).2.2.1, (hagree c).2.2.2]

end Cert.Proof.InprojClaims

end
-- ==== Proof.AttnClaims.lean ====
/-
  The claims about the windowed attention: the frames and the named constant.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.AttnClaims

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem preserves : Cert.preserves_Kernel_KernelIdeal :=
  IdealRules.named_const.statement Cert.KernelIdeal.κ "mask" .f32 0xF149F2CA#32 ⊥ rfl

end Cert.Proof.AttnClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.KernelIdeal.Value
public import proofs.«01_k».proof.Proof.Gen.InprojIdeal.Value
public import proofs.«01_k».proof.Proof.Gen.ReferenceIdeal.Run
public import proofs.«01_k».proof.Proof.Gen.InprojRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_experts_in_range
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.OutprojRefIdeal.Run
public import proofs.«01_k».proof.Proof.OutprojClaims
public import proofs.«01_k».proof.Proof.ExpertsClaims
public import proofs.«01_k».proof.Proof.InprojClaims
public import proofs.«01_k».proof.Proof.AttnClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Inproj.Gen.facts, Cert.InprojIdeal.Gen.facts, Cert.InprojRefIdeal.Gen.facts,
  Cert.Experts.Gen.facts, Cert.ExpertsIdeal.Gen.facts, Cert.ExpertsRefIdeal.Gen.facts,
  Cert.Outproj.Gen.facts, Cert.OutprojIdeal.Gen.facts, Cert.OutprojRefIdeal.Gen.facts, Cert.Pre_experts_in_range.Gen.facts,
  AttnClaims.frame_p, AttnClaims.frame_pi, AttnClaims.frame_ri, InprojClaims.frame_p, InprojClaims.frame_pi, InprojClaims.frame_ri,
  ExpertsClaims.frame_p, ExpertsClaims.frame_pi, ExpertsClaims.frame_ri, ExpertsClaims.frame_ri',
  OutprojClaims.frame_p, OutprojClaims.frame_pi, OutprojClaims.frame_ri,
  AttnClaims.preserves, InprojClaims.preserves, InprojClaims.algebraic, ExpertsClaims.preserves, ExpertsClaims.algebraic,
  OutprojClaims.preserves, OutprojClaims.algebraic⟩

end Cert.Proof

end
